-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_grid [hPre_unit_grid : Cert.Pre_unit_grid.Facts] (m : (ℓ : Loc Cert.KernelIdeal.nD Cert.KernelIdeal.τ Cert.KernelIdeal.sig) → Buf (Elt Ideal) ℓ) : Prop :=
  ∀ c : Dev Cert.KernelIdeal.nD,
    (Cert.Pre_unit_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_grid [hPre_unit_grid : Cert.Pre_unit_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_unit_grid [hKernelIdeal : Cert.KernelIdeal.Facts] [hPre_unit_grid : Cert.Pre_unit_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_unit_grid [hReferenceIdeal : Cert.ReferenceIdeal.Facts] [hPre_unit_grid : Cert.Pre_unit_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_unit_grid [hKernelIdeal : Cert.KernelIdeal.Facts] [hReferenceIdeal : Cert.ReferenceIdeal.Facts] [hPre_unit_grid : Cert.Pre_unit_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_unit_grid : Cert.Pre_unit_grid.Facts),
    quiescent_Kernel (hKernel := hKernel)
    ∧ quiescent_KernelIdeal (hKernelIdeal := hKernelIdeal)
    ∧ quiescent_KernelIdeal_pre_unit_grid (hKernelIdeal := hKernelIdeal) (hPre_unit_grid := hPre_unit_grid)
    ∧ quiescent_ReferenceIdeal (hReferenceIdeal := hReferenceIdeal)
    ∧ quiescent_ReferenceIdeal_pre_unit_grid (hReferenceIdeal := hReferenceIdeal) (hPre_unit_grid := hPre_unit_grid)
    ∧ preserves_Kernel_KernelIdeal
    ∧ algebraic_KernelIdeal_ReferenceIdeal_pre_unit_grid (hKernelIdeal := hKernelIdeal) (hReferenceIdeal := hReferenceIdeal) (hPre_unit_grid := hPre_unit_grid)
-- ==== Pre_unit_grid.lean ====
abbrev S4096x256 : Shape := ⟨2, ![4096, 256]⟩
abbrev S1024x256 : Shape := ⟨2, ![1024, 256]⟩
abbrev S1024x2 : Shape := ⟨2, ![1024, 2]⟩
abbrev S1 : Shape := ⟨1, ![1]⟩
abbrev S_ : Shape := ⟨0, ![]⟩

class Facts : Prop where
  bcast_S_S1024x2 : S_.BroadcastsInDim S1024x2 (![] : Fin 0 → Fin S1024x2.rank)
  reducesTo_S1024x2_S_d0_1 : S1024x2.ReducesTo [0, 1] S_
  h_S_ : 0 < S_.numel
  shapeCasts_S1_S_ : S1.ShapeCasts S_

variable [Facts]

def fn_where {F : FTy → Type} [FloatOps F] (arg0 : IVec S1024x2 1) (arg1 : IVec S1024x2 32) (arg2 : IVec S1024x2 32) : IVec S1024x2 32 :=
  let v0 : IVec S1024x2 32 := select arg0 arg1 arg2
  v0

def fn {F : FTy → Type} [FloatOps F] (main_arg0 : FVec F S4096x256 .f32) (main_arg1 : FVec F S1024x256 .f32) (main_arg2 : FVec F S1024x2 .f32) (main_arg3 : FVec F S1 .f32) : IVec S_ 1 :=
  let main_v0 : IVec S1024x2 32 := iotaInDim S1024x2 32 0
  let main_v1 : IVec S1024x2 32 := iotaInDim S1024x2 32 1
  let main_c : IVec S_ 32 := constantI S_ 32 32#32
  let main_v2 : IVec S1024x2 32 := broadcastInDim S1024x2 ![] bcast_S_S1024x2 main_c
  let main_c_0 : IVec S_ 32 := constantI S_ 32 0#32
  let main_v3 : IVec S1024x2 32 := broadcastInDim S1024x2 ![] bcast_S_S1024x2 main_c_0
  let main_v4 : IVec S1024x2 1 := cmpi .eq main_v1 main_v3
  let main_v5 : IVec S1024x2 32 := Host.divsi main_v0 main_v2
  let main_v6 : IVec S1024x2 32 := Host.remsi main_v0 main_v2
  let main_v7 : IVec S1024x2 32 := fn_where (F := F) main_v4 main_v5 main_v6
  let main_v8 : FVec F S1024x2 .f32 := sitofp .f32 main_v7
  let main_v9 : IVec S1024x2 1 := cmpf .oeq main_arg2 main_v8
  let main_c_1 : IVec S_ 1 := constantI S_ 1 1#1
  let main_v10 : IVec S_ 1 := (fun x v => Host.reduce IntOp.andi x v reducesTo_S1024x2_S_d0_1 h_S_) main_v9 main_c_1
  let main_v11 : FVec F S_ .f32 := shapeCast S_ main_arg3 shapeCasts_S1_S_
  let main_cst : FVec F S_ .f32 := constant S_ .f32 0x00000000#32
  let main_v12 : IVec S_ 1 := cmpf .une main_v11 main_cst
  let main_v13 : IVec S_ 1 := andi main_v10 main_v12
  main_v13
-- ==== Kernel.lean ====
abbrev S4096x256 : Shape := ⟨2, ![4096, 256]⟩
abbrev S1024x256 : Shape := ⟨2, ![1024, 256]⟩
abbrev S1024x2 : Shape := ⟨2, ![1024, 2]⟩
abbrev S1 : Shape := ⟨1, ![1]⟩
abbrev S1x1 : Shape := ⟨2, ![1, 1]⟩
abbrev S1x1024 : Shape := ⟨2, ![1, 1024]⟩
abbrev S8x1024 : Shape := ⟨2, ![8, 1024]⟩
abbrev S2x512x256 : Shape := ⟨3, ![2, 512, 256]⟩
abbrev S2 : Shape := ⟨1, ![2]⟩
abbrev S1024 : Shape := ⟨1, ![1024]⟩
abbrev S1024x1 : Shape := ⟨2, ![1024, 1]⟩
abbrev S_ : Shape := ⟨0, ![]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S512x1024 : Shape := ⟨2, ![512, 1024]⟩
abbrev S512x8 : Shape := ⟨2, ![512, 8]⟩
abbrev S1x512x1024 : Shape := ⟨3, ![1, 512, 1024]⟩
abbrev S1x1x1 : Shape := ⟨3, ![1, 1, 1]⟩

abbrev nBuf : Space → Nat
  | .hbm => 6
  | .vmem => 6
  | .smem => 1
  | _ => 0

abbrev bufTy : (tb : Table) → Fin (tcTables nBuf tb) → BufTy
  | .hbm, ⟨0, _⟩ => ⟨S4096x256, .f32⟩
  | .hbm, ⟨1, _⟩ => ⟨S1024x256, .f32⟩
  | .hbm, ⟨2, _⟩ => ⟨S1024x2, .f32⟩
  | .hbm, ⟨3, _⟩ => ⟨S1, .f32⟩
  | .hbm, ⟨4, _⟩ => ⟨S1x1, .f32⟩
  | .hbm, ⟨5, _⟩ => ⟨S_, .f32⟩
  | .local _ .vmem, ⟨0, _⟩ => ⟨S1024x256, .f32⟩
  | .local _ .vmem, ⟨1, _⟩ => ⟨S1x1, .f32⟩
  | .local _ .vmem, ⟨2, _⟩ => ⟨S1024x256, .bf16⟩
  | .local _ .vmem, ⟨3, _⟩ => ⟨S1x1024, .i32⟩
  | .local _ .vmem, ⟨4, _⟩ => ⟨S8x1024, .bf16⟩
  | .local _ .vmem, ⟨5, _⟩ => ⟨S2x512x256, .f32⟩
  | .local _ .smem, ⟨0, _⟩ => ⟨S1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4096x256 : Shape := ⟨2, ![4096, 256]⟩
abbrev S1024x256 : Shape := ⟨2, ![1024, 256]⟩
abbrev S1024x2 : Shape := ⟨2, ![1024, 2]⟩
abbrev S1 : Shape := ⟨1, ![1]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x1 : Shape := ⟨2, ![1024, 1]⟩
abbrev S256x1024 : Shape := ⟨2, ![256, 1024]⟩
abbrev S4096x1024 : Shape := ⟨2, ![4096, 1024]⟩
abbrev S1x1 : Shape := ⟨2, ![1, 1]⟩
abbrev S4096x2 : Shape := ⟨2, ![4096, 2]⟩
abbrev S4096x1x2 : Shape := ⟨3, ![4096, 1, 2]⟩
abbrev S1x1024x2 : Shape := ⟨3, ![1, 1024, 2]⟩
abbrev S4096x1024x2 : Shape := ⟨3, ![4096, 1024, 2]⟩

abbrev nBuf : Space → Nat
  | .hbm => 81
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1024x256, .f32⟩
  | .hbm, ⟨2, _⟩ => ⟨S1024x2, .f32⟩
  | .hbm, ⟨3, _⟩ => ⟨S1, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x256, .f32⟩
  | .hbm, ⟨13, _⟩ => ⟨S4096x256, .f32⟩
  | .hbm, ⟨14, _⟩ => ⟨S1024x256, .f32⟩
  | .hbm, ⟨15, _⟩ => ⟨S_, .f32⟩
  | .hbm, ⟨16, _⟩ => ⟨S1024, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x256, .f32⟩
  | .hbm, ⟨23, _⟩ => ⟨S1024x256, .f32⟩
  | .hbm, ⟨24, _⟩ => ⟨S256x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .i32⟩
  | .hbm, ⟨30, _⟩ => ⟨S_, .f32⟩
  | .hbm, ⟨31, _⟩ => ⟨S_, .i32⟩
  | .hbm, ⟨32, _⟩ => ⟨S4096, .f32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S1, .i32⟩
  | .hbm, ⟨43, _⟩ => ⟨S_, .i32⟩
  | .hbm, ⟨44, _⟩ => ⟨S4096x1, .i32⟩
  | .hbm, ⟨45, _⟩ => ⟨S4096x1, .i1⟩
  | .hbm, ⟨46, _⟩ => ⟨S1x1, .i32⟩
  | .hbm, ⟨47, _⟩ => ⟨S4096x1, .i32⟩
  | .hbm, ⟨48, _⟩ => ⟨S4096x1, .i1⟩
  | .hbm, ⟨49, _⟩ => ⟨S4096x1, .i1⟩
  | .hbm, ⟨50, _⟩ => ⟨S_, .i1⟩
  | .hbm, ⟨51, _⟩ => ⟨S4096, .i1⟩
  | .hbm, ⟨52, _⟩ => ⟨S4096x2, .f32⟩
  | .hbm, ⟨53, _⟩ => ⟨S4096x2, .i1⟩
  | .hbm, ⟨54, _⟩ => ⟨S_, .f32⟩
  | .hbm, ⟨55, _⟩ => ⟨S4096x2, .f32⟩
  | .hbm, ⟨56, _⟩ => ⟨S4096x2, .f32⟩
  | .hbm, ⟨57, _⟩ => ⟨S4096x1x2, .f32⟩
  | .hbm, ⟨58, _⟩ => ⟨S1x1024x2, .f32⟩
  | .hbm, ⟨59, _⟩ => ⟨S4096x1024x2, .f32⟩
  | .hbm, ⟨60, _⟩ => ⟨S4096x1024x2, .f32⟩
  | .hbm, ⟨61, _⟩ => ⟨S4096x1024x2, .f32⟩
  | .hbm, ⟨62, _⟩ => ⟨S4096x1024x2, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S1, .f32⟩
  | .hbm, ⟨67, _⟩ => ⟨S_, .f32⟩
  | .hbm, ⟨68, _⟩ => ⟨S1, .f32⟩
  | .hbm, ⟨69, _⟩ => ⟨S1, .f32⟩
  | .hbm, ⟨70, _⟩ => ⟨S1x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_call2_v0 : Ref sig .tc := ⟨.hbm, 29, rfl⟩
abbrev main_call2_cst : Ref sig .tc := ⟨.hbm, 30, rfl⟩
abbrev main_call2_c : Ref sig .tc := ⟨.hbm, 31, rfl⟩
abbrev main_call2_v1_0 : Ref sig .tc := ⟨.hbm, 32, rfl⟩
abbrev main_v14 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_v14 : Ref sig .tc := ⟨.hbm, 53, rfl⟩
abbrev main_call3_cst : Ref sig .tc := ⟨.hbm, 54, rfl⟩
abbrev main_call3_v15 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_cst_2 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_cst_3 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_4 : Ref sig .tc := ⟨.hbm, 75, rfl⟩
abbrev main_v32 : Ref sig .tc := ⟨.hbm, 76, rfl⟩
abbrev main_cst_5 : Ref sig .tc := ⟨.hbm, 77, rfl⟩
abbrev main_v33 : Ref sig .tc := ⟨.hbm, 78, rfl⟩
abbrev main_cst_6 : Ref sig .tc := ⟨.hbm, 79, rfl⟩
abbrev main_v34 : Ref sig .tc := ⟨.hbm, 80, rfl⟩

abbrev nD : Nat := 1
abbrev τ : Topo := Topo.v7x

variable {F : FTy → Type} [FloatOps F]
-- ==== Proof.Setup.lean ====
/- What the kernel's body is run on: its branch condition, its staging and scratch memrefs, its own transfer
   semaphores, the operand it moves itself, and the invariant holding them. -/
module

public import proofs.«01_k».proof.Proof.Gen.KernelIdeal.Frame
public import proofs.«01_k».proof.Proof.Gen.KernelIdeal.Skeleton
public import Idealize.ShloMosaic.Lib.Pipeline.FrameSuffixR

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at every point — by arithmetic of the point. -/
theorem hcond0_0 : ∀ t : Fin cfg0.N, cond0_0 (grid0.coords t) :=
  (fun t => by
    have ht : t.val < 1 := Nat.lt_of_lt_of_eq t.isLt N_0
    have e0 : (grid0.coords t 0).val = t.val / 1 % 1 := Pipeline.Grid.coords_val t 0 (by decide) rfl
    simp only [cond0_0, e0]
    word_cmp
   : ∀ t : Fin grid0.N, cond0_0 (grid0.coords t))

/-! ## The kernel body on any staging memrefs: a subtype the run finds -/

/-- Each window's current staging memref at point `t`, spelled as the pipeline passes it (`bodyAt0`), and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S1024x256 .bf16 := Memref.whole cc0_scratch0
abbrev scM0_1 : Memref sig .tc .vmem S1x1024 .i32 := Memref.whole cc0_scratch1
abbrev scM0_2 : Memref sig .tc .vmem S8x1024 .bf16 := Memref.whole cc0_scratch2
abbrev scM0_3 : Memref sig .tc .vmem S2x512x256 .f32 := Memref.whole cc0_scratch3
/-- The operands left in HBM that the body copies into scratch itself, whole. -/
abbrev hbM0_0 : Memref sig .tc .hbm S4096x256 .f32 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 3, SemLoc.dma 4] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0) := by
  rw [Pipeline.ownSems0_eq_of_list c osem0 [0, 1] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 3) 0 ∗ semVal ((c : Thread nD τ), SemLoc.dma 4) 0) ∗ iprop(hbPt0 c hbM0_0 (V m c main_arg0))) := by
  rw [Pipeline.ΦD_eq, scopedRest0_eq, ownSems00_eq, hbmPts0_eq]; simp only [scM0_0, scM0_1, scM0_2, scM0_3, owns_whole]; try rfl

end Cert.KernelIdeal.Hand

end
-- ==== Proof.Slots.lean ====
/- Reading one slot of the two-slot scratch after copies into it and into the other slot, and the group of
   rows a copy brings. -/
module

public import proofs.«01_k».proof.Proof.Setup
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F] [Named F]

section Slot

variable {M : Memref sig .tc .vmem S2x512x256 .f32} {Val : EltTy → Type}
  {o o' : Fin 3 → ℕ} {ib : ∀ a, o a + S1x512x256.size a ≤ S2x512x256.size a} {ib' : ∀ a, o' a + S1x512x256.size a ≤ S2x512x256.size a}

/-- A load of the slot a copy has just filled reads what the copy brought, one leading axis more. -/
theorem slot_hit (hr : ∀ a, (Rect.unit (s := S2x512x256) o S1x512x256.size ib).stride a = 1) (hq : S1x512x256.Squeezes S512x256)
    (hc : S512x256.ShapeCasts S1x512x256) (f : M.view.ty.Contents Val) (w : S512x256.Idx → Val .f32) :
    M.view.readAt Val (Rect.unit (s := S2x512x256) o S1x512x256.size ib).toLoadRect
        (View.write Val ((M.slice (Rect.unit (s := S2x512x256) o S1x512x256.size ib) hr).squeeze S512x256 hq).view f w Finset.univ)
      = shapeCast S1x512x256 w hc := by
  have h := View.read_write_univ (Val := Val) (v := ((M.slice (Rect.unit (s := S2x512x256) o S1x512x256.size ib) hr).squeeze S512x256 hq).view) f w
  have hc' : S1x512x256.ShapeCasts S512x256 := hc.symm
  rw [Memref.read_squeeze_slice M _ hr hq hc'] at h
  exact (shapeCast_shapeCast _ hc' hc).symm.trans (congrArg (fun z => shapeCast S1x512x256 z hc) h)

/-- A load of one slot does not see a copy into the other. -/
theorem slot_miss (hne : o 0 ≠ o' 0) (hr : ∀ a, (Rect.unit (s := S2x512x256) o' S1x512x256.size ib').stride a = 1) (hq : S1x512x256.Squeezes S512x256)
    (f : M.view.ty.Contents Val) (w : S512x256.Idx → Val .f32) :
    M.view.readAt Val (Rect.unit (s := S2x512x256) o S1x512x256.size ib).toLoadRect
        (View.write Val ((M.slice (Rect.unit (s := S2x512x256) o' S1x512x256.size ib') hr).squeeze S512x256 hq).view f w Finset.univ)
      = M.view.readAt Val (Rect.unit (s := S2x512x256) o S1x512x256.size ib).toLoadRect f := by
  apply View.readAt_congr
  intro i hi
  apply View.write_of_not_mem
  rw [View.setOn_univ, Memref.set_view_squeeze]
  intro hi'
  have hd : Disjoint (Rect.unit (s := S2x512x256) o S1x512x256.size ib).set (Rect.unit (s := S2x512x256) o' S1x512x256.size ib').set :=
    Rect.disjoint_of_axis _ _ 0 fun j₁ h₁ j₂ h₂ => by
      have e1 : j₁ = 0 := Nat.lt_one_iff.mp h₁
      have e2 : j₂ = 0 := Nat.lt_one_iff.mp h₂
      subst e1; subst e2
      simpa using hne
  have hs : (M.slice (Rect.unit (s := S2x512x256) o' S1x512x256.size ib') hr).view.set
      = (Rect.unit (s := S2x512x256) o' S1x512x256.size ib').set.map M.view.emb := View.set_slice _ _
  rw [hs] at hi'
  exact Finset.disjoint_left.mp ((Finset.disjoint_map M.view.emb).mpr hd) hi hi'

end Slot

/-- Row group `h` of the input, 512 rows of the 4096. -/
def rows {α : Type} (X : S4096x256.Idx → α) (h : Fin 8) : S512x256.Idx → α :=
  fun j => X (ix2 ⟨512 * h.val + (j 0).val, by have := h.isLt; have := (j 0).isLt; change (j 0).val < 512 at this; omega⟩ (j 1))

/-- A copy out of the input's rows from `512 * h` on brings row group `h`. -/
theorem rows_read {c : Dev nD} (h : Fin 8) {o : Fin 2 → ℕ} (ho : o = ![512 * h.val, 0])
    (ib : ∀ a, o a + S512x256.size a ≤ S4096x256.size a) (hr : ∀ a, (Rect.unit (s := S4096x256) o S512x256.size ib).stride a = 1)
    (f : HbBuf0 (F := F) c hbM0_0) :
    (ReadAs.same (Val := Elt F)).apply (View.read (Elt F) ((Memref.whole main_arg0).slice (Rect.unit (s := S4096x256) o S512x256.size ib) hr).view f)
      = rows f h := by
  subst ho
  funext j
  show f ((Rect.unit (s := S4096x256) ![512 * h.val, 0] S512x256.size ib).emb j) = f _
  congr 1
  funext a
  apply Fin.ext
  rw [Rect.emb_apply]
  fin_cases a
  · show 512 * h.val + 1 * (j 0).val = 512 * h.val + (j 0).val
    omega
  · show 0 + 1 * (j 1).val = (j 1).val
    omega

end Cert.KernelIdeal.Hand

end
-- ==== Proof.Step.lean ====
/- What the kernel computes, named: the tables it keeps in scratch, one row group's contribution to the running
   total, and the stored result. -/
module

public import proofs.«01_k».proof.Proof.Slots

@[expose] public section

set_option maxRecDepth 16384

noncomputable section

namespace Cert.KernelIdeal.Hand

open Cert.KernelIdeal.Gen
open Idealize.ShloMosaic Idealize.ShloMosaic.TcCoe

variable {F : FTy → Type} [FloatOps F] [Named F]

/-- The positions 0 … 1023 in a row, as the kernel draws them up. -/
def posRow : IVec S1x1024 32 := iota Kind.tc S1x1024 32 [1] (by decide)

/-- The second factor of the coordinate product, eight rows of 1024. -/
def rhsTab : Vec F S8x1024 .bf16 :=
  k0_pay18 (k0_pay7 k0_pay4 k0_pay5 k0_pay6) (k0_pay8 posRow) (k0_pay10 posRow k0_pay4 k0_pay5 k0_pay6)
    (k0_pay12 posRow k0_pay4 k0_pay5 k0_pay6) (k0_pay13 posRow k0_pay4 k0_pay5 k0_pay6) k0_pay14 k0_pay15 k0_pay16
    (Scalar.ofBits .f32 0x00000000#32)

/-- One row group's contribution added to the running total: from the exponent's scale, the normalised weights, the
    positions, the coordinate table, and the group's rows. -/
def step (a2 : F .f32) (wn : Vec F S1024x256 .bf16) (io : Vec F S1x1024 .i32) (rhs : Vec F S8x1024 .bf16)
    (v : Vec F S1x512x256 .f32) (acc : F .f32) : F .f32 :=
  k0_pay30 a2 rhs acc (k0_pay26 wn v) (k0_pay27 wn io v) 32#32 (k0_pay28 wn io v) (k0_pay29 wn io v)
    (Scalar.extui (Scalar.cmpi .sgt 32#32 0#32))

/-- Row group `h` as the scratch slot holds it. -/
def slab (X : S4096x256.Idx → Elt F .f32) (h : Fin 8) : Vec F S1x512x256 .f32 :=
  shapeCast S1x512x256 (rows X h) (by decide)

/-- The running total after the first `n` row groups. -/
def total (a2 : F .f32) (wn : Vec F S1024x256 .bf16) (io : Vec F S1x1024 .i32) (rhs : Vec F S8x1024 .bf16)
    (X : S4096x256.Idx → Elt F .f32) : (n : ℕ) → n ≤ 8 → F .f32
  | 0, _ => Scalar.ofBits .f32 0x00000000#32
  | n + 1, h => step a2 wn io rhs (slab X ⟨n, h⟩) (total a2 wn io rhs X n (Nat.le_of_succ_le h))

/-- What the kernel stores: the total over the eight row groups, scaled, from the input `X`, the weights and the width. -/
def stored (x0 : Vec F S1024x256 .f32) (x1 : Vec F S1 .f32) (X : S4096x256.Idx → Elt F .f32) : Vec F S1x1 .f32 :=
  k0_pay1 (total (k0_pay17 (x1 (ix1 0))) (k0_pay2 x0) k0_pay3 rhsTab X 8 le_rfl) k0_pay19

end Cert.KernelIdeal.Hand

end
-- ==== Proof.Run.lean ====
/- The run of the kernel's body, its output named. -/
module

public import proofs.«01_k».proof.Proof.Step
public import Idealize.ShloMosaic.Lib.WholeRead
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

theorem offs2 : (![0, 0] : Fin 2 → ℕ) = fun _ => 0 := by funext a; fin_cases a <;> rfl

/-- A load of the whole of a memref held at `X` reads `X`. -/
theorem read2 {M : Memref sig .tc .vmem S1024x256 .f32} (h : M.IsWhole) (X : Vec F S1024x256 .f32)
    {ib : ∀ a, (![0, 0] : Fin 2 → ℕ) a + S1024x256.size a ≤ S1024x256.size a} :
    View.readAt (Elt F) M.view (Rect.unit (s := S1024x256) ![0, 0] S1024x256.size ib).toLoadRect (h.unread X) = X := by
  funext x
  rw [h.readAt_unread]
  congr 1
  funext a
  apply Fin.ext
  rw [LoadRect.idx_apply]
  fin_cases a <;> simp

theorem read1 {M : Memref sig .tc .smem S1 .f32} (h : M.IsWhole) (X : Vec F S1 .f32)
    {ib : ∀ a, (![0] : Fin 1 → ℕ) a + S1.size a ≤ S1.size a} {hp} :
    View.readAt (Elt F) M.view (Rect.unit (s := S1) ![0] S1.size ib).toLoadRect (h.unread X) (Shape.Idx.first hp) = X (ix1 0) := by
  rw [h.readAt_unread]
  congr 1
  funext a
  apply Fin.ext
  fin_cases a
  rfl

-- (the run's proof term is large: checking it walks past the default budget)
set_option maxHeartbeats 1000000 in set_option sl_exec.dmaWindow true in set_option sl_exec.dmaWindowSet true in
/-- The body's triple: from whole staging memrefs holding the weights and the width, and the input held whole where it
    lies, the body runs to the end, gives everything back as it was, and leaves the output at `stored`. -/
theorem body_run (c : Dev nD) (i : grid0.Coords) (arg2 : Memref sig .tc .vmem S1024x256 .f32) (harg2 : arg2.IsWhole) (arg3 : Memref sig .tc .smem S1 .f32) (harg3 : arg3.IsWhole) (arg4 : Memref sig .tc .vmem S1x1 .f32) (harg4 : arg4.IsWhole) (arg5 : Memref sig .tc .vmem S1024x256 .bf16) (harg5 : arg5.IsWhole) (arg6 : Memref sig .tc .vmem S1x1024 .i32) (harg6 : arg6.IsWhole) (arg7 : Memref sig .tc .vmem S8x1024 .bf16) (harg7 : arg7.IsWhole) (arg8 : Memref sig .tc .vmem S2x512x256 .f32) (harg8 : arg8.IsWhole) (hc0 : cond0_0 i)
    (x0 : Vec F S1024x256 .f32) (x1 : Vec F S1 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 3) 0 ∗ semVal ((c : Thread nD τ), SemLoc.dma 4) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare (stored x0 x1 fh0) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 3) 0 ∗ semVal ((c : Thread nD τ), SemLoc.dma 4) 0 ∗ hbPt0 c hbM0_0 fh0 ∗ (∃ W', owes (c : Thread nD τ) 0 W')) -∗ K ⟨⟩))
          ⊢ wp frame (wpE (defs₀ (F := F)) Variants.none c none) Set.univ (cc0__som_loss_body i (Memref.whole main_arg0) (Memref.isWhole_whole _) arg2 harg2 arg3 harg3 arg4 harg4 arg5 harg5 arg6 harg6 arg7 harg7 arg8 harg8 cc0_scratch4) K := by
    intro W K
    simp only [cc0__som_loss_body_eq_skeleton]; unfold cc0__som_loss_body_skel
    simp only [k0_part20_eq_skeleton, k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, ⟨%ds3, %fs3, -, HS3⟩, Hq0, Hq1, Hh0, HW, Hk⟩
    obtain rfl := harg2.eq_unread hf0; obtain rfl := harg3.eq_unread hf1
    sl_exec (disch := first | sl_exact hc0)
    sl_step
    have e6 : body_run.sl.v6 (F := F) c arg2 harg2 arg5 x0 = k0_pay2 x0 := (View.readCov_unit_zero _ offs2 _ _).trans (congrArg k0_pay2 (read2 harg2 x0))
    have e7 : body_run.sl.v7 (F := F) c arg6 = (k0_pay3 : Vec F S1x1024 .i32) := View.readCov_unit_zero _ offs2 _ _
    have e8 : body_run.sl.v8 (F := F) c arg7 = (rhsTab : Vec F S8x1024 .bf16) := View.readCov_unit_zero _ offs2 _ _
    have e2 : body_run.sl.r_1 (F := F) c arg3 harg3 x1 = k0_pay17 (x1 (ix1 0)) := congrArg k0_pay17 (read1 harg3 x1)
    have s0 : body_run.sl.v24 (F := F) c arg8 fh0 fs3 = slab fh0 0 := by
      unfold body_run.sl.v24
      repeat rw [slot_miss (by decide)]
      rw [slot_hit _ _ (by decide)]
      exact congrArg (fun z => shapeCast S1x512x256 z _) (rows_read 0 rfl _ _ fh0)
    have s1 : body_run.sl.v117 (F := F) c arg8 fh0 fs3 = slab fh0 1 := by
      unfold body_run.sl.v117
      repeat rw [slot_miss (by decide)]
      rw [slot_hit _ _ (by decide)]
      exact congrArg (fun z => shapeCast S1x512x256 z _) (rows_read 1 rfl _ _ fh0)
    have s2 : body_run.sl.v210 (F := F) c arg8 fh0 fs3 = slab fh0 2 := by
      unfold body_run.sl.v210
      repeat rw [slot_miss (by decide)]
      rw [slot_hit _ _ (by decide)]
      exact congrArg (fun z => shapeCast S1x512x256 z _) (rows_read 2 rfl _ _ fh0)
    have s3 : body_run.sl.v303 (F := F) c arg8 fh0 fs3 = slab fh0 3 := by
      unfold body_run.sl.v303
      repeat rw [slot_miss (by decide)]
      rw [slot_hit _ _ (by decide)]
      exact congrArg (fun z => shapeCast S1x512x256 z _) (rows_read 3 rfl _ _ fh0)
    have s4 : body_run.sl.v396 (F := F) c arg8 fh0 fs3 = slab fh0 4 := by
      unfold body_run.sl.v396
      repeat rw [slot_miss (by decide)]
      rw [slot_hit _ _ (by decide)]
      exact congrArg (fun z => shapeCast S1x512x256 z _) (rows_read 4 rfl _ _ fh0)
    have s5 : body_run.sl.v489 (F := F) c arg8 fh0 fs3 = slab fh0 5 := by
      unfold body_run.sl.v489
      repeat rw [slot_miss (by decide)]
      rw [slot_hit _ _ (by decide)]
      exact congrArg (fun z => shapeCast S1x512x256 z _) (rows_read 5 rfl _ _ fh0)
    have s6 : body_run.sl.v582 (F := F) c arg8 fh0 fs3 = slab fh0 6 := by
      unfold body_run.sl.v582
      repeat rw [slot_miss (by decide)]
      rw [slot_hit _ _ (by decide)]
      exact congrArg (fun z => shapeCast S1x512x256 z _) (rows_read 6 rfl _ _ fh0)
    have s7 : body_run.sl.v670 (F := F) c arg8 fh0 fs3 = slab fh0 7 := by
      unfold body_run.sl.v670
      repeat rw [slot_miss (by decide)]
      rw [slot_hit _ _ (by decide)]
      exact congrArg (fun z => shapeCast S1x512x256 z _) (rows_read 7 rfl _ _ fh0)
    have t0 : body_run.sl.v106 (F := F) c arg2 harg2 arg3 harg3 arg5 arg6 arg7 arg8 x0 x1 fh0 fs3 = step (body_run.sl.r_1 (F := F) c arg3 harg3 x1) (body_run.sl.v6 (F := F) c arg2 harg2 arg5 x0) (body_run.sl.v7 (F := F) c arg6) (body_run.sl.v8 (F := F) c arg7) (body_run.sl.v24 (F := F) c arg8 fh0 fs3) (Scalar.ofBits .f32 0x00000000#32) := rfl
    have t1 : body_run.sl.v199 (F := F) c arg2 harg2 arg3 harg3 arg5 arg6 arg7 arg8 x0 x1 fh0 fs3 = step (body_run.sl.r_1 (F := F) c arg3 harg3 x1) (body_run.sl.v6 (F := F) c arg2 harg2 arg5 x0) (body_run.sl.v7 (F := F) c arg6) (body_run.sl.v8 (F := F) c arg7) (body_run.sl.v117 (F := F) c arg8 fh0 fs3) (body_run.sl.v106 (F := F) c arg2 harg2 arg3 harg3 arg5 arg6 arg7 arg8 x0 x1 fh0 fs3) := rfl
    have t2 : body_run.sl.v292 (F := F) c arg2 harg2 arg3 harg3 arg5 arg6 arg7 arg8 x0 x1 fh0 fs3 = step (body_run.sl.r_1 (F := F) c arg3 harg3 x1) (body_run.sl.v6 (F := F) c arg2 harg2 arg5 x0) (body_run.sl.v7 (F := F) c arg6) (body_run.sl.v8 (F := F) c arg7) (body_run.sl.v210 (F := F) c arg8 fh0 fs3) (body_run.sl.v199 (F := F) c arg2 harg2 arg3 harg3 arg5 arg6 arg7 arg8 x0 x1 fh0 fs3) := rfl
    have t3 : body_run.sl.v385 (F := F) c arg2 harg2 arg3 harg3 arg5 arg6 arg7 arg8 x0 x1 fh0 fs3 = step (body_run.sl.r_1 (F := F) c arg3 harg3 x1) (body_run.sl.v6 (F := F) c arg2 harg2 arg5 x0) (body_run.sl.v7 (F := F) c arg6) (body_run.sl.v8 (F := F) c arg7) (body_run.sl.v303 (F := F) c arg8 fh0 fs3) (body_run.sl.v292 (F := F) c arg2 harg2 arg3 harg3 arg5 arg6 arg7 arg8 x0 x1 fh0 fs3) := rfl
    have t4 : body_run.sl.v478 (F := F) c arg2 harg2 arg3 harg3 arg5 arg6 arg7 arg8 x0 x1 fh0 fs3 = step (body_run.sl.r_1 (F := F) c arg3 harg3 x1) (body_run.sl.v6 (F := F) c arg2 harg2 arg5 x0) (body_run.sl.v7 (F := F) c arg6) (body_run.sl.v8 (F := F) c arg7) (body_run.sl.v396 (F := F) c arg8 fh0 fs3) (body_run.sl.v385 (F := F) c arg2 harg2 arg3 harg3 arg5 arg6 arg7 arg8 x0 x1 fh0 fs3) := rfl
    have t5 : body_run.sl.v571 (F := F) c arg2 harg2 arg3 harg3 arg5 arg6 arg7 arg8 x0 x1 fh0 fs3 = step (body_run.sl.r_1 (F := F) c arg3 harg3 x1) (body_run.sl.v6 (F := F) c arg2 harg2 arg5 x0) (body_run.sl.v7 (F := F) c arg6) (body_run.sl.v8 (F := F) c arg7) (body_run.sl.v489 (F := F) c arg8 fh0 fs3) (body_run.sl.v478 (F := F) c arg2 harg2 arg3 harg3 arg5 arg6 arg7 arg8 x0 x1 fh0 fs3) := rfl
    have t6 : body_run.sl.v664 (F := F) c arg2 harg2 arg3 harg3 arg5 arg6 arg7 arg8 x0 x1 fh0 fs3 = step (body_run.sl.r_1 (F := F) c arg3 harg3 x1) (body_run.sl.v6 (F := F) c arg2 harg2 arg5 x0) (body_run.sl.v7 (F := F) c arg6) (body_run.sl.v8 (F := F) c arg7) (body_run.sl.v582 (F := F) c arg8 fh0 fs3) (body_run.sl.v571 (F := F) c arg2 harg2 arg3 harg3 arg5 arg6 arg7 arg8 x0 x1 fh0 fs3) := rfl
    have t7 : body_run.sl.r_2 (F := F) c arg2 harg2 arg3 harg3 arg5 arg6 arg7 arg8 x0 x1 fh0 fs3 = step (body_run.sl.r_1 (F := F) c arg3 harg3 x1) (body_run.sl.v6 (F := F) c arg2 harg2 arg5 x0) (body_run.sl.v7 (F := F) c arg6) (body_run.sl.v8 (F := F) c arg7) (body_run.sl.v670 (F := F) c arg8 fh0 fs3) (body_run.sl.v664 (F := F) c arg2 harg2 arg3 harg3 arg5 arg6 arg7 arg8 x0 x1 fh0 fs3) := rfl
    have e9 : body_run.sl.v753 (F := F) c arg4 = k0_pay19 := View.readCov_unit_zero _ offs2 _ _
    have tt : body_run.sl.r_2 (F := F) c arg2 harg2 arg3 harg3 arg5 arg6 arg7 arg8 x0 x1 fh0 fs3 = total (k0_pay17 (x1 (ix1 0))) (k0_pay2 x0) k0_pay3 rhsTab fh0 8 le_rfl := by
      rw [t7, t6, t5, t4, t3, t2, t1, t0, s0, s1, s2, s3, s4, s5, s6, s7, e2, e6, e7, e8]; rfl
    have hout : View.read (Elt F) arg4.view (arg4.view.writes (Elt F) f2
        (⟨Rect.unit ![0, 0] ![1, 1] inb_S1x1_S1x1_0_0, k0_pay1 (body_run.sl.r_2 (F := F) c arg2 harg2 arg3 harg3 arg5 arg6 arg7 arg8 x0 x1 fh0 fs3) (body_run.sl.v753 (F := F) c arg4)⟩ :: body_run.sl.H2_1 (F := F)))
        = stored x0 x1 fh0 := by
      rw [e9, tt]
      exact View.read_writes_full (s := S1x1) _ _ _ _ _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro; exact hout
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    iexists _; iexact HW

end Cert.KernelIdeal.Hand

end
-- ==== Proof.Launch.lean ====
/- The launch: the pipeline's proof data with the output named, the body's obligation, the run of @main, and what
   @main's arguments and result hold when it ends. -/
module

public import proofs.«01_k».proof.Proof.Run
public import Idealize.ShloMosaic.Lib.Claim
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## @main around the region -/

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The frame from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
      ((h c).1 0).trans (((dats 0 c).arrAt_in 0 rfl _).trans ((hA c 0).trans (V_main_arg1 m c))),
      (((h c).2 main_arg2 (Pipeline.mem_restRefs_of main_arg2 (by decide) (by decide))).trans (W_main_arg2 m dats c)),
      ((h c).1 1).trans (((dats 0 c).arrAt_in 1 rfl _).trans ((hA c 1).trans (V_main_arg3 m c)))⟩) h

/-! ## The proof data -/

/-- The proof data: each input's buffer holds its block, the output's the number the kernel stores. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => stored (iblk m c 0 t) (iblk m c 1 t) (V m c main_arg0)
  Φ _ := Pipeline.ΦD osem0 spec0 H0 (V m) c
  q _ := fullShare
  owed _ := 0

/-- The arrays are what the region finds in them. -/
theorem A_eq (c : Dev nD) (w : Fin cfg0.W) : (dats m 0 c).A w = V m c (Pipeline.arrRef spec0 w) := by
  dsimp only [dats]
/-- After the body the first input's buffer holds its block. -/
theorem after0_0 (c : Dev nD) (t : Fin cfg0.N) : (dats m 0 c).after 0 t = iblk m c 0 t := by dsimp only [dats]
/-- After the body the second input's buffer holds its block. -/
theorem after0_1 (c : Dev nD) (t : Fin cfg0.N) : (dats m 0 c).after 1 t = iblk m c 1 t := by dsimp only [dats]
/-- After the body the output's buffer holds the stored number. -/
theorem after0_2 (c : Dev nD) (t : Fin cfg0.N) : (dats m 0 c).after 2 t
    = stored (iblk m c 0 t) (iblk m c 1 t) (V m c main_arg0) := by dsimp only [dats]
/-- Before the body the first input's buffer holds its block. -/
theorem before0_0 (c : Dev nD) (t : Fin cfg0.N) (d) : (dats m 0 c).before 0 t d = iblk m c 0 t :=
  before0_0_of m (dats m 0 c) (A_eq m c 0) (after0_0 m c) t d
/-- Before the body the second input's buffer holds its block. -/
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point, from its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    after0_0, after0_1, after0_2]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3⟩, Hg, ⟨Hq0, Hq1⟩, Hh0⟩, ⟨%W, -, HW⟩, ⟨%d0, H0⟩, ⟨%d1, H1⟩, ⟨%d2, H2⟩⟩
  iapply ((body_run c (grid0.coords t) _ _ _ _ _ _ _ _ _ _ _ _ _ _ (hcond0_0 t) (iblk m c 0 t) (iblk m c 1 t) (V m c main_arg0)) W _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexact Hh0
  isplitl [HW]; · iexact HW
  iintro ⟨H0, H1, H2, HS0, HS1, HS2, HS3, Hq0, Hq1, Hh0, ⟨%W', HW'⟩⟩
  isplitl [HS0 HS1 HS2 HS3 Hg Hq0 Hq1 Hh0]
  · isplitl [HS0 HS1 HS2 HS3]
    · isplitl [HS0]; · iexact HS0
      isplitl [HS1]; · iexact HS1
      isplitl [HS2]; · iexact HS2
      iexact HS3
    isplitl [Hg]
    · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch of @main: the arrays end as the proof data says, and every semaphore counter at zero. -/
theorem run_launch : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- The frame of @main: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_launch m ρ)))
    ((θ_run defs _ _).mono (fun _ h => h.2) (run_launch m ρ))

/-! ## The result -/

/-- The first input's block is the whole array of weights. -/
theorem iblk_0 (c : Dev nD) : iblk m c 0 t0_0 = m ((c : Thread nD τ).loc main_arg1) := by
  funext j
  have e : ∀ a, win0_0.index t0_0 a = 0 := by decide +kernel
  blk_ext [iblk, V, e]
/-- The second input's block is the whole array of the width. -/
theorem iblk_1 (c : Dev nD) : iblk m c 1 t0_0 = m ((c : Thread nD τ).loc main_arg3) := by
  funext j
  have e : ∀ a, win0_1.index t0_0 a = 0 := by decide +kernel
  blk_ext [iblk, V, e]

/-- The output array ends at the stored number. -/
theorem arr_out (c : Dev nD) : (dats m 0 c).arrAt 2 (cfgs 0).N
    = stored (m ((c : Thread nD τ).loc main_arg1)) (m ((c : Thread nD τ).loc main_arg3)) (m ((c : Thread nD τ).loc main_arg0)) := by
  rw [← iblk_0 m c, ← iblk_1 m c]
  refine (dats m 0 c).arrAt_eq_of_after_last 2 t0_0 (by decide +kernel) _ fun j => ?_
  blk_simp
  rw [after0_2]
  rfl

/-- @main's result. -/
theorem result : θ_run defs (onTc (τ := τ) (main (F := F))) ⟨m, fun _ => 0, ρ⟩ (fun r => ∀ c : Dev nD,
      r.2.mem ((c.tc : Thread nD τ).loc main_v1) = shapeCast S_ (stored (m ((c : Thread nD τ).loc main_arg1))
        (m ((c : Thread nD τ).loc main_arg3)) (m ((c : Thread nD τ).loc main_arg0))) shapeCasts_S1x1_S_) := by
  refine (θ_run defs _ _).mono (fun r h c => ?_) (run_launch m ρ)
  refine ((h.1 c).2 main_v1 (Pipeline.mem_restRefs_of main_v1 (by decide) (by decide))).trans ?_
  unfold Pipeline.afterTail₀
  simp only [List.flatten_cons, List.flatten_nil, List.append_nil]
  after_results
  rw [← arr_out m c]
  exact congrArg (fun x => shapeCast S_ x shapeCasts_S1x1_S_)
    (Pipeline.withArrays_arr (cfgs 0).spec launch0.win.arr_inj c (V0 m c) (fun w => (dats m 0 c).arrAt w (cfgs 0).N) 2)

end Cert.KernelIdeal.Hand

end
-- ==== Proof.Printed.lean ====
/- The printed program is the idealized one read with its named constant's own word, so its frame is the idealized
   program's, which Launch.lean proves at every reading of the floats. -/
module

public import proofs.«01_k».proof.Defs
public import proofs.«01_k».proof.Proof.Gen.Kernel
public import proofs.«01_k».proof.Proof.Launch

@[expose] public section

set_option maxRecDepth 16384

noncomputable section

namespace Cert.Printed

open Idealize.ShloMosaic Idealize.SL.Sem

variable {F : FTy → Type} [FloatOps F]

/-- Every name read as the word it stands for. -/
@[reducible] def asWritten : Named F := ⟨fun _ _ {φ} w => FloatOps.ofBits φ w⟩

attribute [local instance] asWritten

/-- The two programs have one kernel body. -/
theorem body_eq : Kernel.cc0__som_loss_body (F := F) = KernelIdeal.cc0__som_loss_body (F := F) := rfl

/-- They have one table of kernel bodies. -/
theorem defs₀_eq : Kernel.defs₀ (F := F) = KernelIdeal.defs₀ (F := F) := by
  unfold Kernel.defs₀ KernelIdeal.defs₀
  refine congrArg Defs.onTc (funext fun l => funext fun a => ?_)
  match l, a with
  | 0, (t, s) => exact rfl
  | ⟨_ + 1, h⟩, _ => exact absurd h (Nat.not_lt.2 (Nat.le_add_left _ _))

/-- They have one table of bodies, pipelines included. -/
theorem defs_eq : Kernel.defs (F := F) = KernelIdeal.defs (F := F) :=
  congrArg (Pipeline.defs (Kernel.pcfgs (F := F))) defs₀_eq

/-- They have one main program. -/
theorem main_eq : Kernel.main (F := F) = KernelIdeal.main (F := F) := rfl

/-- The frame of the printed program. -/
theorem frame : Cert.quiescent_Kernel (hKernel := Cert.Kernel.Gen.facts) := by
  intro m g _
  rw [defs_eq, main_eq]
  exact Cert.KernelIdeal.Hand.frame m g

end Cert.Printed

end

end
-- ==== Proof.Ref.lean ====
/- What the reference computes, stage by stage, and its run. -/
module

public import proofs.«01_k».proof.Proof.Gen.ReferenceIdeal
public import Idealize.ShloMosaic.Lib.StableHlo.Run
public import Idealize.ShloMosaic.Lib.StableHlo.RunHlo
public import Idealize.ShloMosaic.Lib.Claim
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The rows of the inputs over their norms (plus the small constant). -/
def xUnit (x : FVec F S4096x256 .f32) : FVec F S4096x256 .f32 :=
  Host.divf x (broadcastInDim S4096x256 ![0, 1] bcast_S4096x1_S4096x256_0_1
    (addf (Host.sqrt (broadcastInDim S4096x1 ![0] bcast_S4096_S4096x1_0
      (Host.reduceAdd (mulf x x) (constant S_ .f32 0x00000000#32) reducesTo_S4096x256_S4096_d1 h_S_)))
      (broadcastInDim S4096x1 ![] bcast_S_S4096x1 (constant S_ .f32 0x322BCC77#32))))

/-- The rows of the weights over their norms (plus the small constant). -/
def wUnit (w : FVec F S1024x256 .f32) : FVec F S1024x256 .f32 :=
  Host.divf w (broadcastInDim S1024x256 ![0, 1] bcast_S1024x1_S1024x256_0_1
    (addf (Host.sqrt (broadcastInDim S1024x1 ![0] bcast_S1024_S1024x1_0
      (Host.reduceAdd (mulf w w) (constant S_ .f32 0x00000000#32) reducesTo_S1024x256_S1024_d1 h_S_)))
      (broadcastInDim S1024x1 ![] bcast_S_S1024x1 (constant S_ .f32 0x322BCC77#32))))

/-- The cosine distances of every input to every weight. -/
def dist (x : FVec F S4096x256 .f32) (w : FVec F S1024x256 .f32) : FVec F S4096x1024 .f32 :=
  subf (broadcastInDim S4096x1024 ![] bcast_S_S4096x1024 (constant S_ .f32 0x3F800000#32))
    (Host.dotGeneral dot_S4096x256_S256x1024_S4096x1024_1_0_0_1_n_n none (xUnit x)
      (transpose S256x1024 [1, 0] (wUnit w) transposes_S1024x256_S256x1024_1_0))

/-- The index of the nearest weight of every input. -/
def bmu (d : FVec F S4096x1024 .f32) : IVec S4096 32 := fun j =>
  (Host.argReduce reducer_argmin_f32_i32 d (iotaInDim S4096x1024 32 1) (constant S_ .f32 0x7F800000#32)
    (constantI S_ 32 0#32) reducesTo_S4096x1024_S4096_d1 h_S_ j).2

/-- The row numbers that the gather reads: a negative one has the row count added. -/
def takeRow (i : IVec S4096 32) : IVec S4096x1 32 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 1024#32))) i)

/-- The grid's rows at the given indices, an index out of range reading the fill value. -/
def take (g : FVec F S1024x2 .f32) (i : IVec S4096 32) : FVec F S4096x2 .f32 :=
  select (broadcastInDim S4096x2 ![0] bcast_S4096_S4096x2_0
      (Host.reduce IntOp.andi
        (andi (cmpi .sge (takeRow i) (broadcastInDim S4096x1 ![] bcast_S_S4096x1 (constantI S_ 32 0#32)))
          (cmpi .sle (takeRow i) (broadcastInDim S4096x1 ![0, 1] bcast_S1x1_S4096x1_0_1
            (broadcastInDim S1x1 ![1] bcast_S1_S1x1_1 (constantI S1 32 1023#32)))))
        (constantI S_ 1 1#1) reducesTo_S4096x1_S4096_d1 h_S_))
    (Host.gather gather_S1024x2_S4096x1_S4096x2_1_0_n_n_0_1_12 g (takeRow i))
    (broadcastInDim S4096x2 ![] bcast_S_S4096x2 (constant S_ .f32 0x7FC00000#32))

/-- The differences of the chosen grid positions and every grid position. -/
def gridDiff (g : FVec F S1024x2 .f32) (i : IVec S4096 32) : FVec F S4096x1024x2 .f32 :=
  subf (broadcastInDim S4096x1024x2 ![0, 1, 2] bcast_S4096x1x2_S4096x1024x2_0_1_2
      (broadcastInDim S4096x1x2 ![0, 2] bcast_S4096x2_S4096x1x2_0_2 (take g i)))
    (broadcastInDim S4096x1024x2 ![0, 1, 2] bcast_S1x1024x2_S4096x1024x2_0_1_2
      (broadcastInDim S1x1024x2 ![1, 2] bcast_S1024x2_S1x1024x2_1_2 g))

/-- The influence of every grid position on every input. -/
def infl (g : FVec F S1024x2 .f32) (s : FVec F S1 .f32) (i : IVec S4096 32) : FVec F S4096x1024 .f32 :=
  Host.exp (Host.divf
    (Host.negf (Host.reduceAdd (mulf (gridDiff g i) (gridDiff g i)) (constant S_ .f32 0x00000000#32)
      reducesTo_S4096x1024x2_S4096x1024_d2 h_S_))
    (broadcastInDim S4096x1024 ![0, 1] bcast_S1x1_S4096x1024_0_1
      (broadcastInDim S1x1 ![1] bcast_S1_S1x1_1
        (mulf (broadcastInDim S1 ![] bcast_S_S1 (constant S_ .f32 0x40000000#32)) (mulf s s)))))

/-- The reference's result. -/
def out (x : FVec F S4096x256 .f32) (w : FVec F S1024x256 .f32) (g : FVec F S1024x2 .f32) (s : FVec F S1 .f32) : FVec F S_ .f32 :=
  Host.divf (Host.reduceAdd (Host.reduceAdd (mulf (infl g s (bmu (dist x w))) (dist x w))
      (constant S_ .f32 0x00000000#32) reducesTo_S4096x1024_S4096_d1 h_S_)
    (constant S_ .f32 0x00000000#32) reducesTo_S4096_S_d0 h_S_) (constant S_ .f32 0x45800000#32)

variable (m : (ℓ : Loc nD τ sig) → Buf (Elt F) ℓ) (ρ : Dev nD → PrngReg)

/-- The frame of the reference: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
    hlo_run
  exact (θ_run defs _ _).mono (fun r hr => ⟨hr, sem_eq_zero_of_no_sems (by decide) r.2⟩) h

set_option maxHeartbeats 4000000 in
set_option maxRecDepth 200000 in
/-- The result of the reference. -/
theorem result : θ_run defs (onTc (τ := τ) (main (F := F))) ⟨m, fun _ => 0, ρ⟩ (fun r => ∀ c : Dev nD,
      r.2.mem ((c.tc : Thread nD τ).loc main_v34) = out (m ((c.tc : Thread nD τ).loc main_arg0)) (m ((c.tc : Thread nD τ).loc main_arg1))
        (m ((c.tc : Thread nD τ).loc main_arg2)) (m ((c.tc : Thread nD τ).loc main_arg3))) := by
  hlo_run
  simp only [StableHlo.TRef.ofBuf_toBuf]
  simp only [StableHlo.TRef.ofBuf, StableHlo.TRef.toBuf, cast_eq]
  rfl

end Cert.ReferenceIdeal.Hand

end
-- ==== Proof.Nearest.lean ====
/- The nearest weight of one row of distances: the least index among those where the distance is least. -/
module

public import Mathlib.Data.EReal.Basic
public import Mathlib.Data.Finset.Fold
public import Mathlib.Data.Fintype.Basic
public import Mathlib.Data.Finset.Max

@[expose] public section

noncomputable section

namespace Cert.Som

/-- `b` is the least index among those where `d` is least. -/
def IsNearest (d : Fin 1024 → EReal) (b : Fin 1024) : Prop :=
  (∀ k, d b ≤ d k) ∧ ∀ k, d k = d b → b ≤ k

/-- Every row has such an index. -/
theorem exists_nearest (d : Fin 1024 → EReal) : ∃ b, IsNearest d b := by
  obtain ⟨a, -, ha⟩ := Finset.exists_min_image (Finset.univ : Finset (Fin 1024)) d ⟨0, Finset.mem_univ _⟩
  obtain ⟨b, hb, hmin⟩ := Finset.exists_min_image (Finset.univ.filter fun k => d k = d a) id
    ⟨a, by simp⟩
  have hb' : d b = d a := by simpa using hb
  refine ⟨b, fun k => hb' ▸ ha k (Finset.mem_univ _), fun k hk => hmin k ?_⟩
  simp [hk, hb']

/-- The nearest index of a row of distances. -/
def nearest (d : Fin 1024 → EReal) : Fin 1024 := (exists_nearest d).choose

/-- It is the least of the indices where the row is least. -/
theorem nearest_spec (d : Fin 1024 → EReal) : IsNearest d (nearest d) := (exists_nearest d).choose_spec

/-- No other index is. -/
theorem eq_nearest {d : Fin 1024 → EReal} {b : Fin 1024} (h : IsNearest d b) : b = nearest d := by
  have h' := nearest_spec d
  have e : d b = d (nearest d) := le_antisymm (h.1 _) (h'.1 _)
  exact le_antisymm (h.2 _ e.symm) (h'.2 _ e)

/-- The minimum of the row, taken from above everything, is the distance at the nearest index. -/
theorem fold_min_eq (d : Fin 1024 → EReal) : Finset.fold min ⊤ d Finset.univ = d (nearest d) := by
  apply le_antisymm
  · exact (Finset.le_fold_min (b := ⊤) (f := d) (s := Finset.univ) _).1 le_rfl |>.2 _ (Finset.mem_univ _)
  · exact (Finset.le_fold_min _).2 ⟨le_top, fun k _ => (nearest_spec d).1 k⟩

end Cert.Som

end

end
-- ==== Proof.KernelNearest.lean ====
/- The kernel's nearest weight of each row: the least position among those where the row is least. -/
module

public import proofs.«01_k».proof.Proof.Step
public import proofs.«01_k».proof.Proof.Nearest
public import Idealize.ShloMosaic.Lib.SortNet.Extract
public import Idealize.ShloMosaic.Lib.Pointwise
public import Idealize.ShloMosaic.Lib.IdealHost

@[expose] public section

set_option maxRecDepth 16384

noncomputable section

namespace Cert.KernelIdeal.Hand

open Cert.KernelIdeal.Gen
open Idealize.ShloMosaic Cert.Som

/-- The word of positive infinity is above everything. -/
theorem word_top : Ideal.ofBits FTy.f32 2139095040#32 = ⊤ := by
  simp [Ideal.ofBits, Ideal.ieee]

/-- A signed minimum over a set of words is at most each of them, and is the start or one of them. -/
theorem fold_minsi {ι : Type} [DecidableEq ι] (g : ι → BitVec 32) (s : Finset ι) (a : BitVec 32) :
    (∀ i ∈ s, (s.fold IntOp.minsi a g).toInt ≤ (g i).toInt) ∧
      (s.fold IntOp.minsi a g = a ∨ ∃ i ∈ s, s.fold IntOp.minsi a g = g i) := by
  induction s using Finset.induction_on with
  | empty => simp
  | insert x s hx ih =>
    rw [Finset.fold_insert hx]
    have hm := SortNet.toInt_minsi (g x) (s.fold IntOp.minsi a g)
    refine ⟨fun i hi => ?_, ?_⟩
    · rcases Finset.mem_insert.1 hi with rfl | hi
      · rw [hm]; exact min_le_left _ _
      · rw [hm]; exact (min_le_right _ _).trans (ih.1 i hi)
    · rcases ih.2 with h | ⟨i, hi, h⟩
      · rw [h]
        by_cases c : (g x).slt a
        · exact Or.inr ⟨x, by simp, by simp [IntOp.minsi, c]⟩
        · exact Or.inl (by simp [IntOp.minsi, c])
      · rw [h]
        by_cases c : (g x).slt (g i)
        · exact Or.inr ⟨x, by simp, by simp [IntOp.minsi, c]⟩
        · exact Or.inr ⟨i, by simp [hi], by simp [IntOp.minsi, c]⟩

/-- The word of a position, read as a signed integer, is the position. -/
theorem toInt_pos (k : Fin 1024) : (BitVec.ofNat 32 k.val).toInt = k.val := by
  rw [BitVec.toInt_eq_toNat_of_lt (by simp; omega)]
  simp; omega

/-- The least position among those where a row is least, as the kernel takes it: positions elsewhere are replaced by
    a larger word. -/
theorem fold_positions (d : Fin 1024 → EReal) :
    Finset.fold IntOp.minsi 2147483647#32
      (fun k => if d k = d (nearest d) then BitVec.ofNat 32 k.val else 1024#32) Finset.univ
      = BitVec.ofNat 32 (nearest d).val := by
  have hn := nearest_spec d
  obtain ⟨h1, h2⟩ := fold_minsi
    (fun k => if d k = d (nearest d) then BitVec.ofNat 32 k.val else 1024#32) Finset.univ 2147483647#32
  have hb := h1 (nearest d) (Finset.mem_univ _)
  simp only [↓reduceIte, toInt_pos] at hb
  have hlt := (nearest d).isLt
  rcases h2 with h | ⟨i, -, h⟩
  · rw [h] at hb
    have : (2147483647#32).toInt = 2147483647 := by decide
    omega
  · rw [h] at hb ⊢
    by_cases c : d i = d (nearest d)
    · rw [if_pos c] at hb ⊢
      rw [toInt_pos] at hb
      have := hn.2 i c
      have : i = nearest d := le_antisymm (by exact_mod_cast hb) this
      rw [this]
    · rw [if_neg c] at hb
      have : (1024#32).toInt = 1024 := by decide
      omega

/-- The positions row at a position. -/
theorem posRow_apply (k : Fin 1024) : posRow (ix2 0 k) = BitVec.ofNat 32 k.val := by
  pointwise [posRow]

/-- The positions row that the kernel keeps in scratch is that row. -/
theorem pay3_eq : k0_pay3 = posRow := by
  funext j
  obtain ⟨a, b, rfl⟩ : ∃ (a : Fin 1) (b : Fin 1024), j = ix2 a b := ⟨j 0, j 1, eq_ix2 j⟩
  pointwise [k0_pay3, posRow]

/-- The kernel's index for a row of a group is the nearest weight's. -/
theorem pay27_apply (wn : Vec Ideal S1024x256 .bf16) (v : Vec Ideal S1x512x256 .f32) (r : Fin 512) :
    k0_pay27 wn posRow v (ix2 r 0) = BitVec.ofNat 32 (nearest fun k => k0_pay26 wn v (ix2 r k)).val := by
  rw [← fold_positions]
  pointwise [k0_pay27]
  rw [word_top, fold_min_eq]
  simp only [posRow_apply]

end Cert.KernelIdeal.Hand

end

end
-- ==== Proof.Words.lean ====
/- The coordinates of a position on the 32 × 32 grid, as the kernel computes them on words. -/
module

public import proofs.«01_k».proof.Proof.KernelNearest

@[expose] public section

set_option maxRecDepth 16384

noncomputable section

namespace Cert.KernelIdeal.Hand

open Cert.KernelIdeal.Gen
open Idealize.ShloMosaic Cert.Som

/-- The rounded-down quotient by 32 of a word, as the kernel spells it. -/
def quo (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 32#32 0#32)) (Scalar.extui (Scalar.cmpi .slt 32#32 0#32))))
      (IntOp.cmpi .ne (IntOp.remsi .vector w 32#32) 0#32))
    (IntOp.subi (IntOp.divsi .vector w 32#32) 1#32) (IntOp.divsi .vector w 32#32)

/-- The remainder that goes with it. -/
def rest (w : BitVec 32) : BitVec 32 := IntOp.subi w (IntOp.muli (quo w) 32#32)

/-- The quotient of a position is its grid row. -/
theorem toInt_quo (k : Fin 1024) : (quo (BitVec.ofNat 32 k.val)).toInt = ((k.val / 32 : ℕ) : ℤ) := by
  revert k; decide +kernel

/-- The remainder of a position is its grid column. -/
theorem toInt_rest (k : Fin 1024) : (rest (BitVec.ofNat 32 k.val)).toInt = ((k.val % 32 : ℕ) : ℤ) := by
  revert k; decide +kernel

/-- A word read as a number is its signed integer. -/
theorem sitofp_word (w : BitVec 32) : FloatOps.sitofp (F := Ideal) .f32 w = ((w.toInt : ℝ) : EReal) := rfl

/-- The row coordinates of the positions. -/
theorem rowCoord_apply (k : Fin 1024) :
    k0_pay7 (F := Ideal) k0_pay4 k0_pay5 k0_pay6 (ix2 0 k) = (((k.val / 32 : ℕ) : ℝ) : EReal) := by
  have h : k0_pay7 (F := Ideal) k0_pay4 k0_pay5 k0_pay6 (ix2 0 k) = FloatOps.sitofp .f32 (quo (BitVec.ofNat 32 k.val)) := by
    pointwise [k0_pay7, k0_pay4, k0_pay5, k0_pay6, quo]
  rw [h, sitofp_word, toInt_quo, Int.cast_natCast]

/-- The column coordinates of the positions. -/
theorem colCoord_apply (k : Fin 1024) :
    k0_pay8 (F := Ideal) posRow (ix2 0 k) = (((k.val % 32 : ℕ) : ℝ) : EReal) := by
  have h : k0_pay8 (F := Ideal) posRow (ix2 0 k) = FloatOps.sitofp .f32 (rest (BitVec.ofNat 32 k.val)) := by
    pointwise [k0_pay8, quo, rest]
    simp only [posRow_apply]
  rw [h, sitofp_word, toInt_rest, Int.cast_natCast]

end Cert.KernelIdeal.Hand

end

end
-- ==== Proof.Tables.lean ====
/- The two tables of the exponent: one row per term for the grid, one column per term for the
   winners, and their product, half the squared grid distance with a minus sign. -/
module

public import proofs.«01_k».proof.Proof.Words

@[expose] public section

set_option maxRecDepth 16384

noncomputable section

namespace Cert.Som

/-- The row coordinate of a position. -/
def gridRow (k : Fin 1024) : ℝ := ((k.val / 32 : ℕ) : ℝ)

/-- The column coordinate of a position. -/
def gridCol (k : Fin 1024) : ℝ := ((k.val % 32 : ℕ) : ℝ)

/-- Half the squared length of a position's coordinates. -/
def half (k : Fin 1024) : ℝ := (gridRow k * gridRow k + gridCol k * gridCol k) * (1 / 2)

/-- The squared distance of two positions on the grid. -/
def gap (b k : Fin 1024) : ℝ :=
  (gridRow b - gridRow k) * (gridRow b - gridRow k) + (gridCol b - gridCol k) * (gridCol b - gridCol k)

end Cert.Som

namespace Cert.KernelIdeal.Hand

open Cert.KernelIdeal.Gen
open Idealize.ShloMosaic Cert.Som

/-- The kernel's word for one half. -/
theorem word_half : Ideal.ofBits FTy.f32 1056964608#32 = (((1 / 2 : ℝ)) : EReal) := by
  simp [Ideal.ofBits, Ideal.ieee, -EReal.coe_mul]; norm_num

/-- The row coordinates of the grid fill the first row of the table. -/
theorem rhsTab_0 (k : Fin 1024) : rhsTab (F := Ideal) (ix2 0 k) = (gridRow k : EReal) := by
  pointwise [rhsTab, k0_pay18, k0_pay9, k0_pay10, k0_pay11, k0_pay12, k0_pay13, k0_pay14, k0_pay15, k0_pay16]
  exact rowCoord_apply k

/-- The column coordinates fill the second. -/
theorem rhsTab_1 (k : Fin 1024) : rhsTab (F := Ideal) (ix2 1 k) = (gridCol k : EReal) := by
  pointwise [rhsTab, k0_pay18, k0_pay9, k0_pay10, k0_pay11, k0_pay12, k0_pay13, k0_pay14, k0_pay15, k0_pay16]
  exact colCoord_apply k

/-- The third row holds minus one. -/
theorem rhsTab_2 (k : Fin 1024) : rhsTab (F := Ideal) (ix2 2 k) = ((-1 : ℝ) : EReal) := by
  pointwise [rhsTab, k0_pay18, k0_pay9, k0_pay10, k0_pay11, k0_pay12, k0_pay13, k0_pay14, k0_pay15, k0_pay16]
  simp

/-- So does the fourth. -/
theorem rhsTab_3 (k : Fin 1024) : rhsTab (F := Ideal) (ix2 3 k) = ((-1 : ℝ) : EReal) := by
  pointwise [rhsTab, k0_pay18, k0_pay9, k0_pay10, k0_pay11, k0_pay12, k0_pay13, k0_pay14, k0_pay15, k0_pay16]
  simp

/-- And the fifth. -/
theorem rhsTab_4 (k : Fin 1024) : rhsTab (F := Ideal) (ix2 4 k) = ((-1 : ℝ) : EReal) := by
  pointwise [rhsTab, k0_pay18, k0_pay9, k0_pay10, k0_pay11, k0_pay12, k0_pay13, k0_pay14, k0_pay15, k0_pay16]
  simp

/-- The sixth row holds minus half the squared length of the grid point. -/
theorem rhsTab_5 (k : Fin 1024) : rhsTab (F := Ideal) (ix2 5 k) = ((-half k : ℝ) : EReal) := by
  pointwise [rhsTab, k0_pay18, k0_pay9, k0_pay10, k0_pay11, k0_pay12, k0_pay13, k0_pay14, k0_pay15, k0_pay16]
  simp only [rowCoord_apply, colCoord_apply, word_half, half, gridRow, gridCol]
  norm_cast
  simp

/-- The seventh holds what rounding lost there, nothing. -/
theorem rhsTab_6 (k : Fin 1024) : rhsTab (F := Ideal) (ix2 6 k) = ((0 : ℝ) : EReal) := by
  pointwise [rhsTab, k0_pay18, k0_pay9, k0_pay10, k0_pay11, k0_pay12, k0_pay13, k0_pay14, k0_pay15, k0_pay16]
  simp only [rowCoord_apply, colCoord_apply, word_half]
  norm_cast
  simp

/-- And so does the eighth. -/
theorem rhsTab_7 (k : Fin 1024) : rhsTab (F := Ideal) (ix2 7 k) = ((0 : ℝ) : EReal) := by
  pointwise [rhsTab, k0_pay18, k0_pay9, k0_pay10, k0_pay11, k0_pay12, k0_pay13, k0_pay14, k0_pay15, k0_pay16]
  simp only [rowCoord_apply, colCoord_apply, word_half]
  norm_cast
  simp

/-- The quotients by 32 of a column of words. -/
def quoCol (idx : IVec S512x1 32) : IVec S512x1 32 := fun j => quo (idx j)

/-- The remainders by 32 of a column of words. -/
def restCol (idx : IVec S512x1 32) : IVec S512x1 32 := fun j => rest (idx j)

variable {F : FTy → Type} [FloatOps F] [Named F]

/-- The winners' table: two coordinates, half the squared length in three pieces, and ones. -/
def lhsTab (cy cx : FVec F S512x1 .f32) : FVec F S512x8 .bf16 :=
  let h : FVec F S512x1 .f32 := mulf (addf (mulf cy cy) (mulf cx cx)) (broadcast S512x1 (Scalar.ofBits .f32 0x3F000000#32))
  let a : FVec F S512x1 .bf16 := truncf .bf16 h bitsLt_bf16_f32
  let p : FVec F S512x1 .f32 := subf h (extf .f32 a bitsLt_bf16_f32)
  let b : FVec F S512x1 .bf16 := truncf .bf16 p bitsLt_bf16_f32
  let q : FVec F S512x1 .f32 := subf p (extf .f32 b bitsLt_bf16_f32)
  let c : FVec F S512x1 .bf16 := truncf .bf16 q bitsLt_bf16_f32
  let one : FVec F S512x1 .f32 := broadcast S512x1 (Scalar.ofBits .f32 0x3F800000#32)
  truncf .bf16 (concatenate S512x8 1 [⟨S512x1, cy⟩, ⟨S512x1, cx⟩, ⟨S512x1, extf .f32 a bitsLt_bf16_f32⟩, ⟨S512x1, extf .f32 b bitsLt_bf16_f32⟩, ⟨S512x1, extf .f32 c bitsLt_bf16_f32⟩, ⟨S512x1, one⟩, ⟨S512x1, one⟩, ⟨S512x1, one⟩] concatenates_S512x1_S512x1_S512x1_S512x1_S512x1_S512x1_S512x1_S512x1_S512x8_d1) bitsLt_bf16_f32

/-- The product of the two tables. -/
def phase (lhs : FVec F S512x8 .bf16) (rhs : FVec F S8x1024 .bf16) : FVec F S512x1024 .f32 :=
  matmul dot_S512x8_S8x1024_S512x1024_1_0_0_1_n_n none lhs rhs (constant S512x1024 .f32 0x00000000#32)

/-- The weighted distances of a slab, added to what came before. -/
def addSlab (a2 : F .f32) (ph d : FVec F S512x1024 .f32) (acc : F .f32) : F .f32 :=
  Scalar.addf acc (extractAt ![0, 0, 0] (shapeCast S1x1x1 (multiReduction .add [1, 2] S1
    (shapeCast S1x512x1024 (mulf (exp2 (mulf ph (broadcast S512x1024 a2))) d) shapeCasts_S512x1024_S1x512x1024)
    0x00000000#32 reduces_S1x512x1024_S1 (.inl rfl) rfl) shapeCasts_S1_S1x1x1) inpos_S1x1x1_p0_0_0)

/-- One pass of the kernel's loop in these terms. -/
theorem step_eq (a2 : F .f32) (wn : Vec F S1024x256 .bf16) (io : Vec F S1x1024 .i32) (rhs : Vec F S8x1024 .bf16)
    (v : Vec F S1x512x256 .f32) (acc : F .f32) :
    step a2 wn io rhs v acc
      = addSlab a2 (phase (lhsTab (sitofp .f32 (quoCol (k0_pay27 wn io v))) (sitofp .f32 (restCol (k0_pay27 wn io v)))) rhs)
          (k0_pay26 wn v) acc := rfl

end Cert.KernelIdeal.Hand

end

end
-- ==== Proof.Pass.lean ====
/- One pass of the kernel's loop as a sum over the slab's rows and the grid's points. -/
module

public import proofs.«01_k».proof.Proof.Tables

@[expose] public section

set_option maxRecDepth 16384

noncomputable section

namespace Cert.KernelIdeal.Hand

open Cert.KernelIdeal.Gen
open Idealize.ShloMosaic Cert.Som

variable (cy cx : FVec Ideal S512x1 .f32) (r : Fin 512) (b : Fin 1024)

/-- The first column of the winners' table holds the row coordinate. -/
theorem lhsTab_0 (hy : cy (ix2 r 0) = ((gridRow b : ℝ) : EReal)) :
    lhsTab cy cx (ix2 r 0) = ((gridRow b : ℝ) : EReal) := by
  pointwise [lhsTab]
  exact hy

/-- The second, the column coordinate. -/
theorem lhsTab_1 (hx : cx (ix2 r 0) = ((gridCol b : ℝ) : EReal)) :
    lhsTab cy cx (ix2 r 1) = ((gridCol b : ℝ) : EReal) := by
  pointwise [lhsTab]
  exact hx

/-- The third, half the squared length. -/
theorem lhsTab_2 (hy : cy (ix2 r 0) = ((gridRow b : ℝ) : EReal)) (hx : cx (ix2 r 0) = ((gridCol b : ℝ) : EReal)) :
    lhsTab cy cx (ix2 r 2) = ((half b : ℝ) : EReal) := by
  pointwise [lhsTab]
  rw [hy, hx, word_half]
  norm_cast

/-- The fourth, what rounding lost there, nothing. -/
theorem lhsTab_3 (hy : cy (ix2 r 0) = ((gridRow b : ℝ) : EReal)) (hx : cx (ix2 r 0) = ((gridCol b : ℝ) : EReal)) :
    lhsTab cy cx (ix2 r 3) = ((0 : ℝ) : EReal) := by
  pointwise [lhsTab]
  rw [hy, hx, word_half]
  norm_cast
  simp

/-- The fifth, again nothing. -/
theorem lhsTab_4 (hy : cy (ix2 r 0) = ((gridRow b : ℝ) : EReal)) (hx : cx (ix2 r 0) = ((gridCol b : ℝ) : EReal)) :
    lhsTab cy cx (ix2 r 4) = ((0 : ℝ) : EReal) := by
  pointwise [lhsTab]
  rw [hy, hx, word_half]
  norm_cast
  simp

/-- The sixth column holds one. -/
theorem lhsTab_5  :
    lhsTab cy cx (ix2 r 5) = ((1 : ℝ) : EReal) := by
  pointwise [lhsTab]
  norm_cast

/-- So does the seventh. -/
theorem lhsTab_6  :
    lhsTab cy cx (ix2 r 6) = ((1 : ℝ) : EReal) := by
  pointwise [lhsTab]
  norm_cast

/-- And the eighth. -/
theorem lhsTab_7  :
    lhsTab cy cx (ix2 r 7) = ((1 : ℝ) : EReal) := by
  pointwise [lhsTab]
  norm_cast

/-- The product of the tables is half the squared grid distance, with a minus sign. -/
theorem phase_apply (k : Fin 1024)
    (hy : cy (ix2 r 0) = ((gridRow b : ℝ) : EReal)) (hx : cx (ix2 r 0) = ((gridCol b : ℝ) : EReal)) :
    phase (lhsTab cy cx) (rhsTab (F := Ideal)) (ix2 r k) = ((-(gap b k) / 2 : ℝ) : EReal) := by
  have h : ∀ (l : FVec Ideal S512x8 .bf16) (t : FVec Ideal S8x1024 .bf16),
      phase l t (ix2 r k) = ∑ x : Fin 8, l (ix2 r x) * t (ix2 x k) := by
    intro l t
    pointwise [phase]
  rw [h, Fin.sum_univ_eight, lhsTab_0 cy cx r b hy, lhsTab_1 cy cx r b hx, lhsTab_2 cy cx r b hy hx, lhsTab_3 cy cx r b hy hx,
    lhsTab_4 cy cx r b hy hx, lhsTab_5, lhsTab_6, lhsTab_7, rhsTab_0, rhsTab_1, rhsTab_2, rhsTab_3, rhsTab_4, rhsTab_5,
    rhsTab_6, rhsTab_7]
  simp only [← EReal.coe_mul, ← EReal.coe_add]
  refine congrArg _ ?_
  simp only [half, gap]
  ring

/-- What one slab adds, as a sum over its cells. -/
theorem addSlab_apply (a2 acc : EReal) (ph d : FVec Ideal S512x1024 .f32) :
    addSlab (F := Ideal) a2 ph d acc
      = acc + ∑ r : Fin 512, ∑ k : Fin 1024, Ideal.exp2 (ph (ix2 r k) * a2) * d (ix2 r k) := by
  pointwise [addSlab]
  rfl

/-- One pass of the loop: each row of the slab is weighed by its distance on the grid to the row's
    nearest point. -/
theorem step_apply (a2 acc : EReal) (wn : Vec Ideal S1024x256 .bf16) (v : Vec Ideal S1x512x256 .f32) :
    step (F := Ideal) a2 wn posRow rhsTab v acc
      = acc + ∑ r : Fin 512, ∑ k : Fin 1024,
          Ideal.exp2 (((-(gap (nearest fun k => k0_pay26 wn v (ix2 r k)) k) / 2 : ℝ) : EReal) * a2)
            * k0_pay26 wn v (ix2 r k) := by
  rw [step_eq, addSlab_apply]
  refine congrArg (acc + ·) ?_
  refine Finset.sum_congr rfl fun r _ => Finset.sum_congr rfl fun k _ => ?_
  rw [phase_apply _ _ r (nearest fun k => k0_pay26 wn v (ix2 r k)) k]
  · change FloatOps.sitofp (F := Ideal) .f32 (quo (k0_pay27 wn posRow v (ix2 r 0))) = _
    rw [pay27_apply, sitofp_word, toInt_quo, Int.cast_natCast]
    rfl
  · change FloatOps.sitofp (F := Ideal) .f32 (rest (k0_pay27 wn posRow v (ix2 r 0))) = _
    rw [pay27_apply, sitofp_word, toInt_rest, Int.cast_natCast]
    rfl

end Cert.KernelIdeal.Hand

end

end
-- ==== Proof.RefNearest.lean ====
/- The reference's nearest weight of each row: its arg-min, which keeps the least index among equals. -/
module

public import proofs.«01_k».proof.Proof.Ref
public import proofs.«01_k».proof.Proof.Nearest
public import Idealize.ShloMosaic.Lib.Pointwise
public import Idealize.ShloMosaic.Lib.IdealHost

@[expose] public section

set_option maxRecDepth 16384

noncomputable section

namespace Cert.ReferenceIdeal.Hand

open Cert.ReferenceIdeal.Gen
open Idealize.ShloMosaic Cert.Som

/-- A pair of a value and an index comes before another: by the value, then by the index. -/
def Before (p q : EReal × BitVec 32) : Prop := p.1 < q.1 ∨ p.1 = q.1 ∧ p.2.toInt ≤ q.2.toInt

theorem Before.refl (p : EReal × BitVec 32) : Before p p := Or.inr ⟨rfl, le_rfl⟩

theorem Before.trans {p q r : EReal × BitVec 32} (h : Before p q) (h' : Before q r) : Before p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- The arg-min's body keeps one of its two pairs, one that comes before both. -/
theorem reducer_spec (a b : EReal × BitVec 32) :
    (reducer_argmin_f32_i32 (F := Ideal) a b = a ∨ reducer_argmin_f32_i32 (F := Ideal) a b = b) ∧
      Before (reducer_argmin_f32_i32 (F := Ideal) a b) a ∧ Before (reducer_argmin_f32_i32 (F := Ideal) a b) b := by
  obtain ⟨x, i⟩ := a
  obtain ⟨y, j⟩ := b
  have e : reducer_argmin_f32_i32 (F := Ideal) (x, i) (y, j)
      = if x < y ∨ x = y ∧ i.toInt < j.toInt then (x, i) else (y, j) := by
    simp only [reducer_argmin_f32_i32, Ideal.cmpf_def, Ideal.cmp, IntOp.cmpi, Scalar.select, IntOp.ori, IntOp.andi, BitVec.slt]
    rcases lt_trichotomy x y with h | h | h
    · simp [h, h.ne]
    · subst h
      by_cases c : i.toInt < j.toInt <;> simp [c]
    · simp [h.not_gt, h.ne']
  rw [e]
  split
  · next h =>
    refine ⟨Or.inl rfl, Before.refl _, ?_⟩
    rcases h with h | ⟨h, h'⟩
    · exact Or.inl h
    · exact Or.inr ⟨h, h'.le⟩
  · next h =>
    push Not at h
    refine ⟨Or.inr rfl, ?_, Before.refl _⟩
    rcases h.1.lt_or_eq with c | c
    · exact Or.inl c
    · exact Or.inr ⟨c, h.2 c.symm⟩

/-- Folded over a list, it keeps the start or a pair of the list, one that comes before all of them. -/
theorem foldl_spec (l : List (EReal × BitVec 32)) (a : EReal × BitVec 32) :
    (l.foldl (reducer_argmin_f32_i32 (F := Ideal)) a = a ∨ l.foldl (reducer_argmin_f32_i32 (F := Ideal)) a ∈ l) ∧
      Before (l.foldl (reducer_argmin_f32_i32 (F := Ideal)) a) a ∧
      ∀ p ∈ l, Before (l.foldl (reducer_argmin_f32_i32 (F := Ideal)) a) p := by
  induction l generalizing a with
  | nil => exact ⟨Or.inl rfl, Before.refl _, by simp⟩
  | cons b l ih =>
    obtain ⟨h1, h2, h3⟩ := ih (reducer_argmin_f32_i32 (F := Ideal) a b)
    obtain ⟨r1, r2, r3⟩ := reducer_spec a b
    rw [List.foldl_cons]
    refine ⟨?_, h2.trans r2, fun p hp => ?_⟩
    · rcases h1 with h1 | h1
      · rcases r1 with r | r
        · exact Or.inl (h1.trans r)
        · exact Or.inr (by rw [h1, r]; exact List.mem_cons_self)
      · exact Or.inr (List.mem_cons_of_mem _ h1)
    · rcases List.mem_cons.1 hp with rfl | hp
      · exact h2.trans r3
      · exact h3 p hp

/-- The word of a position, read as a signed integer, is the position. -/
theorem toInt_pos (k : Fin 1024) : (BitVec.ofNat 32 k.val).toInt = k.val := by
  rw [BitVec.toInt_eq_toNat_of_lt (by simp; omega)]
  simp; omega

/-- Folded over the pairs of a row and its positions, in any order, from above everything, the arg-min's index is the
    nearest one. -/
theorem foldl_nearest (d : Fin 1024 → EReal) (l : List (EReal × BitVec 32))
    (hl : ∀ p, p ∈ l ↔ ∃ k : Fin 1024, p = (d k, BitVec.ofNat 32 k.val)) :
    (l.foldl (reducer_argmin_f32_i32 (F := Ideal)) (⊤, 0#32)).2 = BitVec.ofNat 32 (nearest d).val := by
  have hn := nearest_spec d
  obtain ⟨h1, h2, h3⟩ := foldl_spec l (⊤, 0#32)
  generalize List.foldl _ ((⊤, 0#32) : EReal × BitVec 32) l = p at h1 h2 h3 ⊢
  have hpb : Before p (d (nearest d), BitVec.ofNat 32 (nearest d).val) := h3 _ ((hl _).2 ⟨_, rfl⟩)
  have key : ∃ k : Fin 1024, p.2 = BitVec.ofNat 32 k.val ∧ d k ≤ p.1 ∧ k ≤ nearest d := by
    rcases h1 with h1 | h1
    · subst h1
      exact ⟨0, rfl, le_top, Fin.zero_le _⟩
    · obtain ⟨k, hk⟩ := (hl p).1 h1
      subst hk
      refine ⟨k, rfl, le_rfl, ?_⟩
      rcases hpb with h | ⟨h, h'⟩
      · exact absurd (hn.1 k) (not_le.2 h)
      · simp only [toInt_pos] at h'
        exact_mod_cast h'
  obtain ⟨k, hk, hle, hkb⟩ := key
  have hmin : d k = d (nearest d) := by
    refine le_antisymm (hle.trans ?_) (hn.1 k)
    rcases hpb with h | ⟨h, -⟩
    · exact h.le
    · exact h.le
  rw [hk, le_antisymm hkb (hn.2 k hmin)]

/-- The fiber of an arg-reduction holds the pairs at the operand indices that drop to the result index. -/
theorem mem_fiber_iff {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  simp only [Host.argReduceFiber, List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- Dropping the second coordinate of a matrix index leaves the first. -/
theorem drop_apply (a : Fin 4096) (b : Fin 1024) : reducesTo_S4096x1024_S4096_d1.drop (ix2 a b) = ix1 a := by
  funext c
  exact Subsingleton.elim (α := Fin 1) c 0 ▸ rfl

/-- The fiber of the arg-min at a row holds that row's values with their positions. -/
theorem mem_fiber (d : FVec Ideal S4096x1024 .f32) (r : Fin 4096) (p : EReal × BitVec 32) :
    p ∈ Host.argReduceFiber d (iotaInDim S4096x1024 32 1) reducesTo_S4096x1024_S4096_d1 (ix1 r) ↔
      ∃ k : Fin 1024, p = (d (ix2 r k), BitVec.ofNat 32 k.val) := by
  rw [mem_fiber_iff]
  constructor
  · rintro ⟨i, hi, rfl⟩
    obtain ⟨a, b, rfl⟩ : ∃ (a : Fin 4096) (b : Fin 1024), i = ix2 a b := ⟨i 0, i 1, eq_ix2 i⟩
    rw [drop_apply] at hi
    have : a = r := congrFun hi 0
    subst this
    exact ⟨b, rfl⟩
  · rintro ⟨k, rfl⟩
    exact ⟨ix2 r k, drop_apply r k, rfl⟩

/-- An arg-reduction at `Ideal` is the fold over its fiber from its starting pair. -/
theorem argReduce_eq {s t u : Shape} {axes : List (Fin s.rank)} (f : EReal × BitVec 32 → EReal × BitVec 32 → EReal × BitVec 32)
    (x : FVec Ideal s .f32) (y : s.Idx → BitVec 32) (ix : FVec Ideal u .f32) (iy : u.Idx → BitVec 32)
    (h : s.ReducesTo axes t) (hu : 0 < u.numel) (j : t.Idx) {a : EReal} {b : BitVec 32}
    (ha : ix (Shape.Idx.first hu) = a) (hb : iy (Shape.Idx.first hu) = b) :
    Host.argReduce (F := Ideal) (φ := .f32) f x y ix iy h hu j = (Host.argReduceFiber x y h j).foldl f (a, b) := by
  rw [Ideal.argReduce_eq_reduce2, Host.reduce2_eq_foldl_fiber, ha, hb]

/-- The word of positive infinity is above everything. -/
theorem word_top : Ideal.ofBits FTy.f32 0x7F800000#32 = ⊤ := by
  simp [Ideal.ofBits, Ideal.ieee]

/-- The second parts of a family of pairs. -/
def seconds {ι α β : Type} (p : ι → α × β) : ι → β := fun j => (p j).2

/-- The second part of a known pair. -/
theorem seconds_of {ι α β : Type} {p : ι → α × β} {j : ι} {q : α × β} (h : p j = q) : seconds p j = q.2 := by
  subst h; rfl

/-- The reference's indices are the second parts of its arg-min. -/
theorem bmu_eq (d : FVec Ideal S4096x1024 .f32) :
    bmu d = seconds (Host.argReduce (reducer_argmin_f32_i32 (F := Ideal)) d (iotaInDim S4096x1024 32 1)
      (constant S_ .f32 0x7F800000#32) (constantI S_ 32 0#32) reducesTo_S4096x1024_S4096_d1 h_S_) := rfl

/-- The fold over a row's fiber, from above everything, is a pair whose index is the nearest weight's. -/
theorem argReduce_row (d : FVec Ideal S4096x1024 .f32) (r : Fin 4096) :
    Host.argReduce (reducer_argmin_f32_i32 (F := Ideal)) d (iotaInDim S4096x1024 32 1)
      (constant S_ .f32 0x7F800000#32) (constantI S_ 32 0#32) reducesTo_S4096x1024_S4096_d1 h_S_ (ix1 r)
      = (Host.argReduceFiber d (iotaInDim S4096x1024 32 1) reducesTo_S4096x1024_S4096_d1 (ix1 r)).foldl
          (reducer_argmin_f32_i32 (F := Ideal)) (⊤, 0#32) := by
  have e : (constant (F := Ideal) S_ .f32 0x7F800000#32 (Shape.Idx.first h_S_)) = (⊤ : EReal) := word_top
  exact argReduce_eq _ _ _ _ _ _ _ _ e rfl

/-- The reference's index for a row is the nearest weight's. -/
theorem bmu_apply (d : FVec Ideal S4096x1024 .f32) (r : Fin 4096) :
    bmu d (ix1 r) = BitVec.ofNat 32 (nearest fun k => d (ix2 r k)).val := by
  rw [bmu_eq, seconds_of (argReduce_row d r)]
  exact foldl_nearest _ _ (mem_fiber d r)

end Cert.ReferenceIdeal.Hand

end

end
-- ==== Proof.Distance.lean ====
/- The kernel's cosine distances are the reference's. -/
module

public import proofs.«01_k».proof.Proof.Pass
public import proofs.«01_k».proof.Proof.RefNearest

@[expose] public section

set_option maxRecDepth 16384

noncomputable section

namespace Cert.Som

open Idealize.ShloMosaic

/-- The word both programs add to a norm is a positive number. -/
theorem word_eps : ∃ e : ℝ, 0 < e ∧ Ideal.ofBits FTy.f32 841731191#32 = (e : EReal) := by
  refine ⟨11258999 * (2 : ℝ) ^ (-50 : ℤ), by positivity, ?_⟩
  simp [Ideal.ofBits, Ideal.ieee, -EReal.coe_mul]

/-- The square of an extended real is not negative. -/
theorem sq_nonneg (x : EReal) : 0 ≤ x * x := by
  induction x with
  | bot => simp
  | top => simp
  | coe t => rw [← EReal.coe_mul]; exact_mod_cast mul_self_nonneg t

/-- The root of a number that is not negative is not negative. -/
theorem sqrt_nonneg (x : EReal) (hx : 0 ≤ x) : 0 ≤ Ideal.sqrt x := by
  induction x with
  | bot => simp at hx
  | top => exact le_top
  | coe t =>
    rw [Ideal.sqrt_coe, if_neg (not_lt.2 (by exact_mod_cast hx))]
    exact_mod_cast Real.sqrt_nonneg t

/-- A norm with that word added is not zero. -/
theorem norm_ne_zero {n : ℕ} (f : Fin n → EReal) :
    Ideal.sqrt (∑ x, f x * f x) + Ideal.ofBits FTy.f32 841731191#32 ≠ 0 := by
  obtain ⟨e, he, hw⟩ := word_eps
  have h : 0 ≤ Ideal.sqrt (∑ x, f x * f x) := sqrt_nonneg _ (Finset.sum_nonneg fun x _ => sq_nonneg (f x))
  have h' : (0 : EReal) < Ideal.sqrt (∑ x, f x * f x) + Ideal.ofBits FTy.f32 841731191#32 := by
    rw [hw]
    exact lt_of_lt_of_le (by exact_mod_cast he) (le_add_of_nonneg_left h)
  exact h'.ne'

end Cert.Som

namespace Cert.KernelIdeal.Hand

open Cert.KernelIdeal.Gen
open Idealize.ShloMosaic Cert.Som

/-- The row of the whole batch that a row of a slab is. -/
def rowOf (h : Fin 8) (r : Fin 512) : Fin 4096 := ⟨512 * h.val + r.val, by omega⟩

/-- A slab read at a row. -/
theorem slab_apply (X : Vec Ideal S4096x256 .f32) (h : Fin 8) (r : Fin 512) (x : Fin 256) :
    slab X h (ix3 0 r x) = X (ix2 (rowOf h r) x) := by
  pointwise [slab, rows]
  rfl

/-- A distance the kernel computes is the reference's for the same row and grid point. -/
theorem dist_apply (X : Vec Ideal S4096x256 .f32) (w : Vec Ideal S1024x256 .f32) (h : Fin 8) (r : Fin 512) (k : Fin 1024) :
    k0_pay26 (F := Ideal) (k0_pay2 w) (slab X h) (ix2 r k)
      = Cert.ReferenceIdeal.Hand.dist (F := Ideal) X w (ix2 (rowOf h r) k) := by
  have hk : ∀ (wn : Vec Ideal S1024x256 .bf16) (v : Vec Ideal S1x512x256 .f32), k0_pay26 wn v (ix2 r k)
      = 1 - ∑ x : Fin 256, v (ix3 0 r x) * Ideal.div 1 (Ideal.sqrt (∑ x : Fin 256, v (ix3 0 r x) * v (ix3 0 r x))
          + Ideal.ofBits FTy.f32 841731191#32) * wn (ix2 k x) := by
    intro wn v
    pointwise [k0_pay26]
  have hw : ∀ x : Fin 256, k0_pay2 w (ix2 k x)
      = w (ix2 k x) * Ideal.div 1 (Ideal.sqrt (∑ x : Fin 256, w (ix2 k x) * w (ix2 k x))
          + Ideal.ofBits FTy.f32 841731191#32) := by
    intro x
    pointwise [k0_pay2]
  have hr : Cert.ReferenceIdeal.Hand.dist (F := Ideal) X w (ix2 (rowOf h r) k)
      = 1 - ∑ x : Fin 256,
          Ideal.div (X (ix2 (rowOf h r) x)) (Ideal.sqrt (∑ x : Fin 256, X (ix2 (rowOf h r) x) * X (ix2 (rowOf h r) x))
            + Ideal.ofBits FTy.f32 841731191#32)
          * Ideal.div (w (ix2 k x)) (Ideal.sqrt (∑ x : Fin 256, w (ix2 k x) * w (ix2 k x))
            + Ideal.ofBits FTy.f32 841731191#32) := by
    pointwise [Cert.ReferenceIdeal.Hand.dist, Cert.ReferenceIdeal.Hand.xUnit, Cert.ReferenceIdeal.Hand.wUnit]
  rw [hk, hr]
  refine congrArg (1 - ·) (Finset.sum_congr rfl fun x _ => ?_)
  simp only [slab_apply]
  rw [hw, Ideal.mul_one_div (norm_ne_zero fun x => X (ix2 (rowOf h r) x)), Ideal.mul_one_div (norm_ne_zero fun x => w (ix2 k x))]

end Cert.KernelIdeal.Hand

end

end
-- ==== Proof.Influence.lean ====
/- The two spellings of a weight agree: a power of two with the logarithm's inverse in the exponent,
   and an exponential. -/
module

public import proofs.«01_k».proof.Proof.Tables

@[expose] public section

noncomputable section

namespace Cert.Som

open Idealize.ShloMosaic

/-- The reference's word for two. -/
theorem word_two : Ideal.ofBits FTy.f32 1073741824#32 = ((2 : ℝ) : EReal) := by
  simp [Ideal.ofBits, Ideal.ieee, -EReal.coe_mul]; norm_num

/-- A real number over plus infinity is zero. -/
theorem div_top (x : EReal) : Ideal.div x ⊤ = 0 := by
  simp [Ideal.div]

/-- The weights at an infinite spread. -/
theorem influence_top (D c : ℝ) :
    Ideal.exp2 (((-D / 2 : ℝ) : EReal) * Ideal.div ((c : ℝ) : EReal) ⊤)
      = Ideal.exp (Ideal.div ((-D : ℝ) : EReal) (((2 : ℝ) : EReal) * ⊤)) := by
  rw [EReal.coe_mul_top_of_pos (by norm_num), div_top, div_top, mul_zero]
  change Ideal.exp2 ((0 : ℝ) : EReal) = Ideal.exp ((0 : ℝ) : EReal)
  change ((Real.rpow 2 0 : ℝ) : EReal) = ((Real.exp 0 : ℝ) : EReal)
  simp

/-- The weights at a spread that is a real number other than zero. -/
theorem influence_real (D t : ℝ) (ht : t ≠ 0) :
    Ideal.exp2 (((-D / 2 : ℝ) : EReal) * Ideal.div (((Real.log 2)⁻¹ : ℝ) : EReal) ((t : EReal) * (t : EReal)))
      = Ideal.exp (Ideal.div ((-D : ℝ) : EReal) (((2 : ℝ) : EReal) * ((t : EReal) * (t : EReal)))) := by
  have h2 : t * t ≠ 0 := mul_ne_zero ht ht
  have hl : Real.log 2 ≠ 0 := (Real.log_pos (by norm_num)).ne'
  rw [← EReal.coe_mul, ← EReal.coe_mul, Ideal.div_coe h2, Ideal.div_coe (mul_ne_zero two_ne_zero h2),
    ← EReal.coe_mul, ← EReal.coe_mul, ← EReal.coe_mul]
  change ((Real.rpow 2 _ : ℝ) : EReal) = ((Real.exp _ : ℝ) : EReal)
  refine congrArg _ ?_
  rw [show ∀ y : ℝ, Real.rpow 2 y = Real.exp (Real.log 2 * y) from fun y => Real.rpow_def_of_pos (by norm_num) y]
  refine congrArg _ ?_
  field_simp

/-- The kernel's weight is the reference's, at any spread other than zero. -/
theorem influence (D : ℝ) (s : EReal) (hs : s ≠ 0) :
    Ideal.exp2 (((-D / 2 : ℝ) : EReal) * Ideal.div (((Real.log 2)⁻¹ : ℝ) : EReal) (s * s))
      = Ideal.exp (Ideal.div ((-D : ℝ) : EReal) (Ideal.ofBits FTy.f32 1073741824#32 * (s * s))) := by
  rw [word_two]
  induction s with
  | bot => rw [EReal.bot_mul_bot]; exact influence_top D _
  | top => rw [EReal.top_mul_top]; exact influence_top D _
  | coe t => exact influence_real D t (fun h => hs (by rw [h]; rfl))

end Cert.Som

end

end
-- ==== Proof.RefValue.lean ====
/- The reference's weights on the unit grid, and its result as a sum over the rows of the batch. -/
module

public import proofs.«01_k».proof.Proof.RefNearest
public import proofs.«01_k».proof.Proof.Influence
public import Idealize.ShloMosaic.Lib.Routing.Ops

@[expose] public section

set_option maxRecDepth 16384

noncomputable section

namespace Cert.ReferenceIdeal.Hand

open Cert.ReferenceIdeal.Gen
open Idealize.ShloMosaic Cert.Som

/-- The range tests on a position always pass. -/
theorem inRange (b : Fin 1024) :
    IntOp.andi (IntOp.cmpi .sge (Scalar.select (IntOp.cmpi .slt (BitVec.ofNat 32 b.val) 0#32)
      (IntOp.addi (BitVec.ofNat 32 b.val) 1024#32) (BitVec.ofNat 32 b.val)) 0#32)
      (IntOp.cmpi .sle (Scalar.select (IntOp.cmpi .slt (BitVec.ofNat 32 b.val) 0#32)
      (IntOp.addi (BitVec.ofNat 32 b.val) 1024#32) (BitVec.ofNat 32 b.val)) 1023#32) = 1#1 := by
  revert b; decide +kernel

/-- Nor is a position moved by the test for a negative one. -/
theorem notMoved (b : Fin 1024) :
    Scalar.select (IntOp.cmpi .slt (BitVec.ofNat 32 b.val) 0#32)
      (IntOp.addi (BitVec.ofNat 32 b.val) 1024#32) (BitVec.ofNat 32 b.val) = BitVec.ofNat 32 b.val := by
  revert b; decide +kernel

/-- The row taken for a position is that row of the grid. -/
theorem take_apply (g : FVec Ideal S1024x2 .f32) (i : IVec S4096 32) (r : Fin 4096) (c : Fin 2) (b : Fin 1024)
    (hi : i (ix1 r) = BitVec.ofNat 32 b.val) : take (F := Ideal) g i (ix2 r c) = g (ix2 b c) := by
  pointwise [take, takeRow]
  simp only [hi, inRange]
  have hrow : takeRow i (ix2 r 0) = BitVec.ofNat 32 b.val := by
    pointwise [takeRow]
    rw [hi, notMoved]
  have hf : Finset.fold IntOp.andi 1#1 (fun _ : Fin 1 => 1#1) Finset.univ = 1#1 := by decide
  rw [hf]
  change Host.gather gather_S1024x2_S4096x1_S4096x2_1_0_n_n_0_1_12 g (takeRow i) (ix2 r c) = _
  rw [ix2_eq_valueIdx] at hrow ⊢
  rw [ix2_eq_valueIdx]
  exact Routing.gather_row gather_S1024x2_S4096x1_S4096x2_1_0_n_n_0_1_12 rfl rfl rfl rfl rfl g (takeRow i) r c b hrow (by norm_num)

/-- A weight on the unit grid depends on the grid distance of the two positions alone. -/
theorem infl_apply (g : FVec Ideal S1024x2 .f32) (s : FVec Ideal S1 .f32) (i : IVec S4096 32) (r : Fin 4096) (k b : Fin 1024)
    (hi : i (ix1 r) = BitVec.ofNat 32 b.val)
    (h0 : ∀ k, g (ix2 k 0) = ((gridRow k : ℝ) : EReal)) (h1 : ∀ k, g (ix2 k 1) = ((gridCol k : ℝ) : EReal)) :
    infl (F := Ideal) g s i (ix2 r k)
      = Ideal.exp (Ideal.div ((-(gap b k) : ℝ) : EReal) (Ideal.ofBits FTy.f32 1073741824#32 * (s (ix1 0) * s (ix1 0)))) := by
  have h : infl (F := Ideal) g s i (ix2 r k)
      = Ideal.exp (Ideal.div (-∑ x : Fin 2, (take g i (ix2 r x) - g (ix2 k x)) * (take g i (ix2 r x) - g (ix2 k x)))
          (Ideal.ofBits FTy.f32 1073741824#32 * (s (ix1 0) * s (ix1 0)))) := by
    pointwise [infl, gridDiff]
  rw [h, Fin.sum_univ_two, take_apply g i r 0 b hi, take_apply g i r 1 b hi, h0, h0, h1, h1]
  simp only [← EReal.coe_sub, ← EReal.coe_mul, ← EReal.coe_add, ← EReal.coe_neg]
  rfl

/-- The reference's result is the mean over the batch of the weighted distances. -/
theorem out_apply (x : FVec Ideal S4096x256 .f32) (w : FVec Ideal S1024x256 .f32) (g : FVec Ideal S1024x2 .f32)
    (s : FVec Ideal S1 .f32) (j) :
    out (F := Ideal) x w g s j = Ideal.div (∑ r : Fin 4096, ∑ k : Fin 1024,
      infl g s (bmu (dist x w)) (ix2 r k) * dist x w (ix2 r k)) (Ideal.ofBits FTy.f32 1166016512#32) := by
  pointwise [out]

end Cert.ReferenceIdeal.Hand

end

end
-- ==== Proof.Equal.lean ====
/- The equation: under the precondition the kernel's result is the reference's. -/
module

public import proofs.«01_k».proof.Proof.Distance
public import proofs.«01_k».proof.Proof.RefValue
public import proofs.«01_k».proof.Proof.Launch

@[expose] public section

set_option maxRecDepth 16384

noncomputable section

namespace Cert.Som

open Idealize.ShloMosaic

/-- The kernel's word for one part in 4096. -/
theorem word_part : Ideal.ofBits FTy.f32 964689920#32 = ((1 / 4096 : ℝ) : EReal) := by
  simp [Ideal.ofBits, Ideal.ieee, -EReal.coe_mul]; norm_num

/-- The reference's word for 4096. -/
theorem word_count : Ideal.ofBits FTy.f32 1166016512#32 = ((4096 : ℝ) : EReal) := by
  simp [Ideal.ofBits, Ideal.ieee, -EReal.coe_mul]; norm_num

end Cert.Som

namespace Cert.KernelIdeal.Hand

open Cert.KernelIdeal.Gen
open Idealize.ShloMosaic Cert.Som

/-- The rows of the batch, slab by slab. -/
theorem sum_slabs (f : Fin 4096 → EReal) : ∑ h : Fin 8, ∑ r : Fin 512, f (rowOf h r) = ∑ R : Fin 4096, f R := by
  rw [← Fintype.sum_prod_type' (f := fun h r => f (rowOf h r)), ← Equiv.sum_comp (finProdFinEquiv (m := 8) (n := 512)) f]
  refine Finset.sum_congr rfl fun p _ => congrArg f (Fin.ext ?_)
  simp [rowOf, finProdFinEquiv, add_comm]

/-- What the loop has summed once every slab is done. -/
theorem total_apply (a2 : EReal) (wn : Vec Ideal S1024x256 .bf16) (X : Vec Ideal S4096x256 .f32) (T : Fin 8 → EReal)
    (hT : ∀ h acc, step (F := Ideal) a2 wn posRow rhsTab (slab X h) acc = acc + T h) :
    total (F := Ideal) a2 wn posRow rhsTab X 8 le_rfl = ∑ h : Fin 8, T h := by
  simp only [total, hT, Fin.sum_univ_eight]
  rw [show Scalar.ofBits (F := Ideal) .f32 0#32 = (0 : EReal) from Ideal.ofBits_zero_f32, zero_add]
  rfl

/-- The kernel's factor in the exponent. -/
theorem factor_apply (t : EReal) : k0_pay17 (F := Ideal) t = Ideal.div (((Real.log 2)⁻¹ : ℝ) : EReal) (t * t) := rfl

/-- What is stored is the total times one part in 4096. -/
theorem stored_apply (w : Vec Ideal S1024x256 .f32) (s : Vec Ideal S1 .f32) (X : Vec Ideal S4096x256 .f32) (j : S_.Idx) :
    shapeCast S_ (stored (F := Ideal) w s X) shapeCasts_S1x1_S_ j
      = total (F := Ideal) (Ideal.div (((Real.log 2)⁻¹ : ℝ) : EReal) (s (ix1 0) * s (ix1 0))) (k0_pay2 w) posRow rhsTab X 8 le_rfl
        * Ideal.ofBits FTy.f32 964689920#32 := by
  rw [← factor_apply, ← pay3_eq]
  pointwise [stored, k0_pay1, k0_pay19]

/-- Under the precondition the kernel's result is the reference's. -/
theorem stored_eq_out (w : Vec Ideal S1024x256 .f32) (s : Vec Ideal S1 .f32) (X : Vec Ideal S4096x256 .f32)
    (g : FVec Ideal Cert.ReferenceIdeal.S1024x2 .f32)
    (h0 : ∀ k, g (ix2 k 0) = ((gridRow k : ℝ) : EReal)) (h1 : ∀ k, g (ix2 k 1) = ((gridCol k : ℝ) : EReal))
    (hs : s (ix1 0) ≠ 0) :
    shapeCast S_ (stored (F := Ideal) w s X) shapeCasts_S1x1_S_ = Cert.ReferenceIdeal.Hand.out (F := Ideal) X w g s := by
  funext j
  rw [stored_apply, Cert.ReferenceIdeal.Hand.out_apply, total_apply _ _ _ (fun h => ∑ r : Fin 512, ∑ k : Fin 1024,
    Cert.ReferenceIdeal.Hand.infl (F := Ideal) g s (Cert.ReferenceIdeal.Hand.bmu (Cert.ReferenceIdeal.Hand.dist (F := Ideal) X w)) (ix2 (rowOf h r) k)
      * Cert.ReferenceIdeal.Hand.dist (F := Ideal) X w (ix2 (rowOf h r) k))]
  · rw [sum_slabs fun R => ∑ k : Fin 1024,
      Cert.ReferenceIdeal.Hand.infl (F := Ideal) g s (Cert.ReferenceIdeal.Hand.bmu (Cert.ReferenceIdeal.Hand.dist (F := Ideal) X w)) (ix2 R k)
        * Cert.ReferenceIdeal.Hand.dist (F := Ideal) X w (ix2 R k), word_part, word_count, Ideal.div_coe (by norm_num)]
  · intro h acc
    rw [step_apply]
    refine congrArg (acc + ·) ?_
    refine Finset.sum_congr rfl fun r _ => Finset.sum_congr rfl fun k _ => ?_
    simp only [dist_apply]
    rw [Cert.ReferenceIdeal.Hand.infl_apply g s _ (rowOf h r) k _ (Cert.ReferenceIdeal.Hand.bmu_apply _ _) h0 h1, influence _ _ hs]

end Cert.KernelIdeal.Hand

end

end
-- ==== Proof.Pre.lean ====
/- What the precondition says: the grid argument holds the coordinates of the positions, and the
   spread is not zero. -/
module

public import proofs.«01_k».proof.Pre_unit_grid
public import proofs.«01_k».proof.Proof.Influence
public import Idealize.ShloMosaic.Lib.ReduceAll

@[expose] public section

set_option maxRecDepth 16384

noncomputable section

namespace Cert.Pre_unit_grid.Hand

open Cert.Pre_unit_grid
open Idealize.ShloMosaic Cert.Som

variable [Facts]

/-- The coordinate words of the grid: the quotient by 32 in the first column, the remainder in the second. -/
def coords : IVec S1024x2 32 :=
  select (cmpi .eq (iotaInDim S1024x2 32 1) (broadcastInDim S1024x2 ![] Facts.bcast_S_S1024x2 (constantI S_ 32 0#32)))
    (Host.divsi (iotaInDim S1024x2 32 0) (broadcastInDim S1024x2 ![] Facts.bcast_S_S1024x2 (constantI S_ 32 32#32)))
    (Host.remsi (iotaInDim S1024x2 32 0) (broadcastInDim S1024x2 ![] Facts.bcast_S_S1024x2 (constantI S_ 32 32#32)))

/-- The first column holds the quotients. -/
theorem coords_row (k : Fin 1024) : (coords (ix2 k 0)).toInt = ((k.val / 32 : ℕ) : ℤ) := by
  pointwise [coords]
  revert k; decide +kernel

/-- The second column holds the remainders. -/
theorem coords_col (k : Fin 1024) : (coords (ix2 k 1)).toInt = ((k.val % 32 : ℕ) : ℤ) := by
  pointwise [coords]
  revert k; decide +kernel

/-- The precondition in these terms. -/
theorem fn_eq (x : FVec Ideal S4096x256 .f32) (w : FVec Ideal S1024x256 .f32) (g : FVec Ideal S1024x2 .f32) (s : FVec Ideal S1 .f32) :
    fn x w g s = andi (Host.reduce IntOp.andi (cmpf .oeq g (sitofp .f32 coords)) (constantI S_ 1 1#1)
      Facts.reducesTo_S1024x2_S_d0_1 Facts.h_S_)
      (cmpf .une (shapeCast S_ s Facts.shapeCasts_S1_S_) (constant S_ .f32 0x00000000#32)) := rfl

variable (x : FVec Ideal S4096x256 .f32) (w : FVec Ideal S1024x256 .f32) (g : FVec Ideal S1024x2 .f32) (s : FVec Ideal S1 .f32)

/-- The only index of a scalar. -/
def at0 : S_.Idx := fun i => i.elim0

/-- Under the precondition every cell of the grid is its coordinate. -/
theorem cell (h : fn x w g s = fun _ => 1#1) (j : S1024x2.Idx) : g j = (((coords j).toInt : ℝ) : EReal) := by
  have e := congrFun h at0
  rw [fn_eq] at e
  have e1 := (IntOp.andi_eq_one.1 e).1
  haveI : Subsingleton S_.Idx := ⟨fun a b => funext fun i => i.elim0⟩
  have e2 := Host.reduce_andi_all _ _ _ _ at0 e1 j
  change Ideal.cmp .oeq (g j) (((coords j).toInt : ℝ) : EReal) = 1#1 at e2
  by_contra hne
  simp [Ideal.cmp, hne] at e2

/-- The first column of the grid holds the row coordinates. -/
theorem grid_row (h : fn x w g s = fun _ => 1#1) (k : Fin 1024) : g (ix2 k 0) = ((gridRow k : ℝ) : EReal) := by
  rw [cell x w g s h, coords_row, Int.cast_natCast]
  rfl

/-- The second holds the column coordinates. -/
theorem grid_col (h : fn x w g s = fun _ => 1#1) (k : Fin 1024) : g (ix2 k 1) = ((gridCol k : ℝ) : EReal) := by
  rw [cell x w g s h, coords_col, Int.cast_natCast]
  rfl

/-- And the spread is not zero. -/
theorem spread (h : fn x w g s = fun _ => 1#1) : s (ix1 0) ≠ 0 := by
  have e := congrFun h at0
  rw [fn_eq] at e
  have e1 := (IntOp.andi_eq_one.1 e).2
  have e2 : cmpf (F := Ideal) .une (shapeCast S_ s Facts.shapeCasts_S1_S_) (constant S_ .f32 0x00000000#32) at0
      = Ideal.cmp .une (s (ix1 0)) 0 := by
    pointwise []
  rw [e2] at e1
  intro hs
  rw [hs] at e1
  simp [Ideal.cmp] at e1

end Cert.Pre_unit_grid.Hand

end

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_unit_grid
public import proofs.«01_k».proof.Proof.Launch
public import proofs.«01_k».proof.Proof.Printed
public import proofs.«01_k».proof.Proof.Ref
public import proofs.«01_k».proof.Proof.Equal
public import proofs.«01_k».proof.Proof.Pre
public import Idealize.ShloMosaic.Adequacy
public import Idealize.ShloMosaic.Init

@[expose] public section

noncomputable section

namespace Cert.Proof

open Idealize.ShloMosaic Idealize.SL.Sem

/-- The named constant holds the reciprocal of the logarithm of two. -/
theorem preserves : Cert.preserves_Kernel_KernelIdeal :=
  IdealRules.named_const.statement Cert.KernelIdeal.κ "log2e" .f32 0x3FB8AA3B#32 (((Real.log 2)⁻¹ : ℝ) : EReal) rfl

attribute [local instance] Cert.Pre_unit_grid.Gen.facts

/-- Under the precondition the two programs' results are one array. -/
theorem values (m : (ℓ : Loc Cert.KernelIdeal.nD Cert.KernelIdeal.τ Cert.KernelIdeal.sig) → Buf (Elt Ideal) ℓ)
    (hp : Cert.Pre_KernelIdeal_unit_grid m) (c : Dev Cert.KernelIdeal.nD) :
    shapeCast Cert.KernelIdeal.S_ (Cert.KernelIdeal.Hand.stored (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg0)))
        Cert.KernelIdeal.Gen.shapeCasts_S1x1_S_
      = Cert.ReferenceIdeal.Hand.out (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) :=
  Cert.KernelIdeal.Hand.stored_eq_out _ _ _ _ (Cert.Pre_unit_grid.Hand.grid_row _ _ _ _ (hp c))
    (Cert.Pre_unit_grid.Hand.grid_col _ _ _ _ (hp c)) (Cert.Pre_unit_grid.Hand.spread _ _ _ _ (hp c))

/-- From equal arguments the kernel and the reference end with the same result, under the precondition. -/
theorem algebraic : Cert.algebraic_KernelIdeal_ReferenceIdeal_pre_unit_grid
    (hKernelIdeal := Cert.KernelIdeal.Gen.facts) (hReferenceIdeal := Cert.ReferenceIdeal.Gen.facts)
    (hPre_unit_grid := Cert.Pre_unit_grid.Gen.facts) := by
  intro m g m' g' hp ha
  refine ⟨fun c => shapeCast Cert.KernelIdeal.S_ (Cert.KernelIdeal.Hand.stored (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg0)))
        Cert.KernelIdeal.Gen.shapeCasts_S1x1_S_, ?_, ?_⟩
  · exact (θ_run _ _ _).mono (fun _ h c => ⟨h.1 c, h.2.1 c⟩)
      (θ_run_and (Cert.KernelIdeal.Hand.result m g) (Cert.KernelIdeal.Hand.frame m g))
  · refine (θ_run _ _ _).mono (fun _ h c => ⟨(h.1 c).trans ?_, h.2.1 c⟩)
      (θ_run_and (Cert.ReferenceIdeal.Hand.result m' g') (Cert.ReferenceIdeal.Hand.frame m' g'))
    rw [(ha c).1, (ha c).2.1, (ha c).2.2.1, (ha c).2.2.2]
    exact (values m hp c).symm

/-- Everything the certificate claims. -/
theorem claim : Cert.Claim :=
  ⟨Cert.Kernel.Gen.facts, Cert.KernelIdeal.Gen.facts, Cert.ReferenceIdeal.Gen.facts, Cert.Pre_unit_grid.Gen.facts,
    Cert.Printed.frame, fun m g _ => Cert.KernelIdeal.Hand.frame m g, fun m g _ => Cert.KernelIdeal.Hand.frame m g,
    fun m g _ => Cert.ReferenceIdeal.Hand.frame m g, fun m g _ => Cert.ReferenceIdeal.Hand.frame m g, preserves, algebraic⟩

end Cert.Proof

end
